-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v44_7) = v1 c
          ∧ r.2.mem ((c.tc : Thread Cert.ReferenceIdeal.nD Cert.ReferenceIdeal.τ).loc Cert.ReferenceIdeal.main_v44_8) = v2 c
          ∧ r.2.mem ((c.tc : Thread Cert.ReferenceIdeal.nD Cert.ReferenceIdeal.τ).loc Cert.ReferenceIdeal.main_v44_9) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S32768x256 : Shape := ⟨2, ![32768, 256]⟩
abbrev S32768x512 : Shape := ⟨2, ![32768, 512]⟩
abbrev S8x32768 : Shape := ⟨2, ![8, 32768]⟩
abbrev S512 : Shape := ⟨1, ![512]⟩
abbrev S_ : Shape := ⟨0, ![]⟩

class Facts : Prop where
  bitsLt_bf16_f32 : FTy.bits .bf16 < FTy.bits .f32
  bcast_S_S32768x256 : S_.BroadcastsInDim S32768x256 (![] : Fin 0 → Fin S32768x256.rank)
  bcast_S_S32768x512 : S_.BroadcastsInDim S32768x512 (![] : Fin 0 → Fin S32768x512.rank)

variable [Facts]

def fn {F : FTy → Type} [FloatOps F] (main_arg0 : FVec F S32768x256 .bf16) (main_arg1 : FVec F S32768x256 .bf16) (main_arg2 : FVec F S32768x512 .bf16) (main_arg3 : FVec F S32768x512 .f32) (main_arg4 : FVec F S8x32768 .f32) (main_arg5 : FVec F S512 .f32) : IVec S32768x256 1 × IVec S32768x256 1 × IVec S32768x512 1 :=
  let main_v0 : FVec F S32768x256 .f32 := (extf .f32 · bitsLt_bf16_f32) main_arg0
  let main_v1 : FVec F S32768x256 .f32 := Host.absf main_v0
  let main_cst : FVec F S_ .f32 := constant S_ .f32 0x7F800000#32
  let main_v2 : FVec F S32768x256 .f32 := broadcastInDim S32768x256 ![] bcast_S_S32768x256 main_cst
  let main_v3 : IVec S32768x256 1 := cmpf .olt main_v1 main_v2
  let main_v4 : FVec F S32768x256 .f32 := (extf .f32 · bitsLt_bf16_f32) main_arg1
  let main_v5 : FVec F S32768x256 .f32 := Host.absf main_v4
  let main_cst_0 : FVec F S_ .f32 := constant S_ .f32 0x7F800000#32
  let main_v6 : FVec F S32768x256 .f32 := broadcastInDim S32768x256 ![] bcast_S_S32768x256 main_cst_0
  let main_v7 : IVec S32768x256 1 := cmpf .olt main_v5 main_v6
  let main_v8 : FVec F S32768x512 .f32 := (extf .f32 · bitsLt_bf16_f32) main_arg2
  let main_v9 : FVec F S32768x512 .f32 := Host.absf main_v8
  let main_cst_1 : FVec F S_ .f32 := constant S_ .f32 0x7F800000#32
  let main_v10 : FVec F S32768x512 .f32 := broadcastInDim S32768x512 ![] bcast_S_S32768x512 main_cst_1
  let main_v11 : IVec S32768x512 1 := cmpf .olt main_v9 main_v10
  (main_v3, main_v7, main_v11)
-- ==== Kernel.lean ====
abbrev S32768x256 : Shape := ⟨2, ![32768, 256]⟩
abbrev S32768x512 : Shape := ⟨2, ![32768, 512]⟩
abbrev S8x32768 : Shape := ⟨2, ![8, 32768]⟩
abbrev S512 : Shape := ⟨1, ![512]⟩
abbrev S256x32768 : Shape := ⟨2, ![256, 32768]⟩
abbrev S1x512 : Shape := ⟨2, ![1, 512]⟩
abbrev S4x4x64x256 : Shape := ⟨4, ![4, 4, 64, 256]⟩
abbrev S4x8x128 : Shape := ⟨3, ![4, 8, 128]⟩
abbrev S256x256 : Shape := ⟨2, ![256, 256]⟩
abbrev S256x512 : Shape := ⟨2, ![256, 512]⟩
abbrev S8x256 : Shape := ⟨2, ![8, 256]⟩
abbrev S1x4x64x256 : Shape := ⟨4, ![1, 4, 64, 256]⟩
abbrev S1x8x128 : Shape := ⟨3, ![1, 8, 128]⟩
abbrev S4x64x256 : Shape := ⟨3, ![4, 64, 256]⟩
abbrev S8x128 : Shape := ⟨2, ![8, 128]⟩
abbrev S256x128 : Shape := ⟨2, ![256, 128]⟩
abbrev S1x256 : Shape := ⟨2, ![1, 256]⟩
abbrev S256 : Shape := ⟨1, ![256]⟩
abbrev S256x1 : Shape := ⟨2, ![256, 1]⟩
abbrev S1x1 : Shape := ⟨2, ![1, 1]⟩
abbrev S256x64 : Shape := ⟨2, ![256, 64]⟩
abbrev S1x64x256 : Shape := ⟨3, ![1, 64, 256]⟩
abbrev S64x256 : Shape := ⟨2, ![64, 256]⟩
abbrev S1x128 : Shape := ⟨2, ![1, 128]⟩
abbrev S1 : Shape := ⟨1, ![1]⟩
abbrev S4x4x64x128 : Shape := ⟨4, ![4, 4, 64, 128]⟩
abbrev S4x4x64x1 : Shape := ⟨4, ![4, 4, 64, 1]⟩
abbrev S4x4x64 : Shape := ⟨3, ![4, 4, 64]⟩
abbrev S4x4x1 : Shape := ⟨3, ![4, 4, 1]⟩
abbrev S4x4 : Shape := ⟨2, ![4, 4]⟩

abbrev nBuf : Space → Nat
  | .hbm => 16
  | .vmem => 21
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x512, .bf16⟩
  | .hbm, ⟨3, _⟩ => ⟨S32768x512, .f32⟩
  | .hbm, ⟨4, _⟩ => ⟨S8x32768, .f32⟩
  | .hbm, ⟨5, _⟩ => ⟨S512, .f32⟩
  | .hbm, ⟨6, _⟩ => ⟨S256x32768, .bf16⟩
  | .hbm, ⟨7, _⟩ => ⟨S1x512, .f32⟩
  | .hbm, ⟨8, _⟩ => ⟨S32768x512, .bf16⟩
  | .hbm, ⟨9, _⟩ => ⟨S4x4x64x256, .f32⟩
  | .hbm, ⟨10, _⟩ => ⟨S4x8x128, .f32⟩
  | .hbm, ⟨11, _⟩ => ⟨S4x4x64x128, .f32⟩
  | .hbm, ⟨12, _⟩ => ⟨S4x4x64x1, .f32⟩
  | .hbm, ⟨13, _⟩ => ⟨S4x4x64, .f32⟩
  | .hbm, ⟨14, _⟩ => ⟨S4x4x1, .f32⟩
  | .hbm, ⟨15, _⟩ => ⟨S4x4, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S8x256, .f32⟩
  | .local _ .vmem, ⟨11, _⟩ => ⟨S8x256, .f32⟩
  | .local _ .vmem, ⟨12, _⟩ => ⟨S1x512, .f32⟩
  | .local _ .vmem, ⟨13, _⟩ => ⟨S256x512, .bf16⟩
  | .local _ .vmem, ⟨14, _⟩ => ⟨S256x512, .bf16⟩
  | .local _ .vmem, ⟨15, _⟩ => ⟨S1x4x64x256, .f32⟩
  | .local _ .vmem, ⟨16, _⟩ => ⟨S1x4x64x256, .f32⟩
  | .local _ .vmem, ⟨17, _⟩ => ⟨S1x8x128, .f32⟩
  | .local _ .vmem, ⟨18, _⟩ => ⟨S1x8x128, .f32⟩
  | .local _ .vmem, ⟨19, _⟩ => ⟨S4x64x256, .f32⟩
  | .local _ .vmem, ⟨20, _⟩ => ⟨S8x128, .f32⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v539 : BitVec 1 := Scalar.cmpi .eq arg1 c31_i32
  let v540 : BitVec 32 := Scalar.extui v539
  let c0_i32_181 : BitVec 32 := 0#32
  let v541 : BitVec 1 := Scalar.cmpi .ne v540 c0_i32_181
  v541

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S32768x256 : Shape := ⟨2, ![32768, 256]⟩
abbrev S32768x512 : Shape := ⟨2, ![32768, 512]⟩
abbrev S8x32768 : Shape := ⟨2, ![8, 32768]⟩
abbrev S512 : Shape := ⟨1, ![512]⟩
abbrev S4x8192x4x64 : Shape := ⟨4, ![4, 8192, 4, 64]⟩
abbrev S4x8192x4x128 : Shape := ⟨4, ![4, 8192, 4, 128]⟩
abbrev S4x32768 : Shape := ⟨2, ![4, 32768]⟩
abbrev S32768x4 : Shape := ⟨2, ![32768, 4]⟩
abbrev S4x8192x4 : Shape := ⟨3, ![4, 8192, 4]⟩
abbrev S_ : Shape := ⟨0, ![]⟩
abbrev S4x4x64x128 : Shape := ⟨4, ![4, 4, 64, 128]⟩
abbrev S4x4x64 : Shape := ⟨3, ![4, 4, 64]⟩
abbrev S4x4 : Shape := ⟨2, ![4, 4]⟩
abbrev S4x128x64x4x64 : Shape := ⟨5, ![4, 128, 64, 4, 64]⟩
abbrev S128x4x64x4x64 : Shape := ⟨5, ![128, 4, 64, 4, 64]⟩
abbrev S128x4x4x64x64 : Shape := ⟨5, ![128, 4, 4, 64, 64]⟩
abbrev S4x128x64x4x128 : Shape := ⟨5, ![4, 128, 64, 4, 128]⟩
abbrev S128x4x64x4x128 : Shape := ⟨5, ![128, 4, 64, 4, 128]⟩
abbrev S128x4x4x64x128 : Shape := ⟨5, ![128, 4, 4, 64, 128]⟩
abbrev S4x128x64x4 : Shape := ⟨4, ![4, 128, 64, 4]⟩
abbrev S128x4x64x4 : Shape := ⟨4, ![128, 4, 64, 4]⟩
abbrev S128x4x4x64 : Shape := ⟨4, ![128, 4, 4, 64]⟩
abbrev S64x64 : Shape := ⟨2, ![64, 64]⟩
abbrev S1x4x4x64x64 : Shape := ⟨5, ![1, 4, 4, 64, 64]⟩
abbrev S4x4x64x64 : Shape := ⟨4, ![4, 4, 64, 64]⟩
abbrev S1x4x4x64x128 : Shape := ⟨5, ![1, 4, 4, 64, 128]⟩
abbrev S1x4x4x64 : Shape := ⟨4, ![1, 4, 4, 64]⟩
abbrev S4x4x64x1 : Shape := ⟨4, ![4, 4, 64, 1]⟩
abbrev S4x4x1x64 : Shape := ⟨4, ![4, 4, 1, 64]⟩
abbrev S4x4x1 : Shape := ⟨3, ![4, 4, 1]⟩
abbrev S4x4x1x1 : Shape := ⟨4, ![4, 4, 1, 1]⟩
abbrev S4x128 : Shape := ⟨2, ![4, 128]⟩
abbrev S4x8192x4x1 : Shape := ⟨4, ![4, 8192, 4, 1]⟩
abbrev S1x1x4x128 : Shape := ⟨4, ![1, 1, 4, 128]⟩

abbrev nBuf : Space → Nat
  | .hbm => 240
  | .vmem => 0
  | .smem => 0
  | _ => 0

abbrev hbmTy0_0 (i : Nat) : BufTy := match i % 128 with
  | 0 => ⟨S32768x256, .bf16⟩
  | 1 => ⟨S32768x256, .bf16⟩
  | 2 => ⟨S32768x512, .bf16⟩
  | 3 => ⟨S32768x512, .f32⟩
  | 4 => ⟨S8x32768, .f32⟩
  | 5 => ⟨S512, .f32⟩
  | 6 => ⟨S32768x256, .f32⟩
  | 7 => ⟨S4x8192x4x64, .f32⟩
  | 8 => ⟨S32768x256, .f32⟩
  | 9 => ⟨S4x8192x4x64, .f32⟩
  | 10 => ⟨S32768x512, .f32⟩
  | 11 => ⟨S4x8192x4x128, .f32⟩
  | 12 => ⟨S4x32768, .f32⟩
  | 13 => ⟨S32768x4, .f32⟩
  | 14 => ⟨S4x8192x4, .f32⟩
  | 15 => ⟨S4x32768, .f32⟩
  | 16 => ⟨S32768x4, .f32⟩
  | 17 => ⟨S4x8192x4, .f32⟩
  | 18 => ⟨S_, .f32⟩
  | 19 => ⟨S4x8192x4, .f32⟩
  | 20 => ⟨S4x8192x4, .f32⟩
  | 21 => ⟨S4x8192x4, .f32⟩
  | 22 => ⟨S_, .f32⟩
  | 23 => ⟨S4x8192x4, .f32⟩
  | 24 => ⟨S4x8192x4, .f32⟩
  | 25 => ⟨S_, .f32⟩
  | 26 => ⟨S4x8192x4, .f32⟩
  | 27 => ⟨S4x8192x4, .f32⟩
  | 28 => ⟨S4x8192x4, .f32⟩
  | 29 => ⟨S_, .f32⟩
  | 30 => ⟨S4x8192x4, .f32⟩
  | 31 => ⟨S4x8192x4, .f32⟩
  | 32 => ⟨S4x8192x4, .f32⟩
  | 33 => ⟨S_, .f32⟩
  | 34 => ⟨S4x8192x4, .f32⟩
  | 35 => ⟨S4x8192x4, .f32⟩
  | 36 => ⟨S4x8192x4, .f32⟩
  | 37 => ⟨S4x8192x4, .f32⟩
  | 38 => ⟨S4x8192x4, .i1⟩
  | 39 => ⟨S4x8192x4, .f32⟩
  | 40 => ⟨S4x8192x4, .f32⟩
  | 41 => ⟨S4x8192x4, .f32⟩
  | 42 => ⟨S4x8192x4, .f32⟩
  | 43 => ⟨S4x8192x4, .f32⟩
  | 44 => ⟨S4x8192x4, .f32⟩
  | 45 => ⟨S4x8192x4, .f32⟩
  | 46 => ⟨S4x8192x4, .f32⟩
  | 47 => ⟨S4x8192x4, .f32⟩
  | 48 => ⟨S_, .f32⟩
  | 49 => ⟨S4x4x64x128, .f32⟩
  | 50 => ⟨S_, .f32⟩
  | 51 => ⟨S4x4x64, .f32⟩
  | 52 => ⟨S_, .f32⟩
  | 53 => ⟨S4x4, .f32⟩
  | 54 => ⟨S4x128x64x4x64, .f32⟩
  | 55 => ⟨S128x4x64x4x64, .f32⟩
  | 56 => ⟨S128x4x4x64x64, .f32⟩
  | 57 => ⟨S4x128x64x4x64, .f32⟩
  | 58 => ⟨S128x4x64x4x64, .f32⟩
  | 59 => ⟨S128x4x4x64x64, .f32⟩
  | 60 => ⟨S4x128x64x4x128, .f32⟩
  | 61 => ⟨S128x4x64x4x128, .f32⟩
  | 62 => ⟨S128x4x4x64x128, .f32⟩
  | 63 => ⟨S4x128x64x4, .f32⟩
  | 64 => ⟨S128x4x64x4, .f32⟩
  | 65 => ⟨S128x4x4x64, .f32⟩
  | 66 => ⟨S4x128x64x4, .f32⟩
  | 67 => ⟨S128x4x64x4, .f32⟩
  | 68 => ⟨S128x4x4x64, .f32⟩
  | 69 => ⟨S_, .i1⟩
  | 70 => ⟨S64x64, .i1⟩
  | 71 => ⟨S64x64, .i32⟩
  | 72 => ⟨S_, .i32⟩
  | 73 => ⟨S64x64, .i32⟩
  | 74 => ⟨S64x64, .i32⟩
  | 75 => ⟨S64x64, .i32⟩
  | 76 => ⟨S64x64, .i1⟩
  | 77 => ⟨S_, .i1⟩
  | 78 => ⟨S64x64, .i1⟩
  | 79 => ⟨S64x64, .i1⟩
  | 80 => ⟨S_, .f32⟩
  | 81 => ⟨S128x4x4x64x128, .f32⟩
  | 82 => ⟨S_, .i32⟩
  | 83 => ⟨S128x4x4x64x64, .f32⟩
  | 84 => ⟨S128x4x4x64x64, .f32⟩
  | 85 => ⟨S128x4x4x64x128, .f32⟩
  | 86 => ⟨S128x4x4x64, .f32⟩
  | 87 => ⟨S128x4x4x64, .f32⟩
  | 88 => ⟨S64x64, .i1⟩
  | 89 => ⟨S_, .i32⟩
  | 90 => ⟨S4x4x64x128, .f32⟩
  | 91 => ⟨S4x4x64, .f32⟩
  | 92 => ⟨S4x4, .f32⟩
  | 93 => ⟨S128x4x4x64x128, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S1x4x4x64x64, .f32⟩
  | 101 => ⟨S4x4x64x64, .f32⟩
  | 102 => ⟨S_, .i32⟩
  | 103 => ⟨S_, .i32⟩
  | 104 => ⟨S_, .i32⟩
  | 105 => ⟨S_, .i32⟩
  | 106 => ⟨S1x4x4x64x64, .f32⟩
  | 107 => ⟨S4x4x64x64, .f32⟩
  | 108 => ⟨S_, .i32⟩
  | 109 => ⟨S_, .i32⟩
  | 110 => ⟨S_, .i32⟩
  | 111 => ⟨S_, .i32⟩
  | 112 => ⟨S1x4x4x64x128, .f32⟩
  | 113 => ⟨S4x4x64x128, .f32⟩
  | 114 => ⟨S_, .i32⟩
  | 115 => ⟨S_, .i32⟩
  | 116 => ⟨S_, .i32⟩
  | 117 => ⟨S1x4x4x64, .f32⟩
  | 118 => ⟨S4x4x64, .f32⟩
  | 119 => ⟨S_, .i32⟩
  | 120 => ⟨S_, .i32⟩
  | 121 => ⟨S_, .i32⟩
  | 122 => ⟨S1x4x4x64, .f32⟩
  | 123 => ⟨S4x4x64, .f32⟩
  | 124 => ⟨S_, .f32⟩
  | 125 => ⟨S_, .f32⟩
  | 126 => ⟨S4x4x64, .f32⟩
  | 127 => ⟨S4x4x64x1, .f32⟩
  | _ => ⟨S32768x256, .bf16⟩

abbrev hbmTy0_1 (i : Nat) : BufTy := match i % 128 with
  | 0 => ⟨S4x4x1x64, .f32⟩
  | 1 => ⟨S4x4x64x64, .f32⟩
  | 2 => ⟨S4x4x64x64, .f32⟩
  | 3 => ⟨S4x4x64x64, .f32⟩
  | 4 => ⟨S4x4x1x64, .f32⟩
  | 5 => ⟨S4x4x64x64, .f32⟩
  | 6 => ⟨S4x4x64x64, .f32⟩
  | 7 => ⟨S_, .f32⟩
  | 8 => ⟨S_, .f32⟩
  | 9 => ⟨S4x4x64x64, .i1⟩
  | 10 => ⟨S4x4x64x64, .f32⟩
  | 11 => ⟨S4x4x64x64, .f32⟩
  | 12 => ⟨S4x4x1, .f32⟩
  | 13 => ⟨S4x4x64, .f32⟩
  | 14 => ⟨S4x4x64, .f32⟩
  | 15 => ⟨S_, .f32⟩
  | 16 => ⟨S4x4x64, .f32⟩
  | 17 => ⟨S4x4x64, .f32⟩
  | 18 => ⟨S4x4x64x64, .f32⟩
  | 19 => ⟨S4x4x64x1, .f32⟩
  | 20 => ⟨S4x4x64x64, .f32⟩
  | 21 => ⟨S4x4x64x64, .f32⟩
  | 22 => ⟨S4x4x64x64, .f32⟩
  | 23 => ⟨S4x4x64x64, .f32⟩
  | 24 => ⟨S4x4x64, .f32⟩
  | 25 => ⟨S4x4x64, .f32⟩
  | 26 => ⟨S4x4x64x128, .f32⟩
  | 27 => ⟨S4x4x64x1, .f32⟩
  | 28 => ⟨S4x4x64x128, .f32⟩
  | 29 => ⟨S4x4x64x128, .f32⟩
  | 30 => ⟨S4x4x64x128, .f32⟩
  | 31 => ⟨S4x4x64x128, .f32⟩
  | 32 => ⟨S_, .f32⟩
  | 33 => ⟨S4x4x64, .f32⟩
  | 34 => ⟨S4x4x64, .f32⟩
  | 35 => ⟨S4x4x64, .f32⟩
  | 36 => ⟨S4x4x64, .f32⟩
  | 37 => ⟨S4x4x64, .f32⟩
  | 38 => ⟨S4x4x64, .f32⟩
  | 39 => ⟨S4x4x64, .f32⟩
  | 40 => ⟨S4x4x64, .f32⟩
  | 41 => ⟨S4x4x64x1, .f32⟩
  | 42 => ⟨S4x4x64x128, .f32⟩
  | 43 => ⟨S4x4x64x128, .f32⟩
  | 44 => ⟨S4x4x1, .f32⟩
  | 45 => ⟨S4x4, .f32⟩
  | 46 => ⟨S4x4x1, .f32⟩
  | 47 => ⟨S4x4x64, .f32⟩
  | 48 => ⟨S4x4x64, .f32⟩
  | 49 => ⟨S4x4x64, .f32⟩
  | 50 => ⟨S4x4, .f32⟩
  | 51 => ⟨S_, .f32⟩
  | 52 => ⟨S4x4, .f32⟩
  | 53 => ⟨S4x4, .f32⟩
  | 54 => ⟨S4x4x1, .f32⟩
  | 55 => ⟨S4x4x64, .f32⟩
  | 56 => ⟨S4x4x64, .f32⟩
  | 57 => ⟨S4x4x64, .f32⟩
  | 58 => ⟨S4x4, .f32⟩
  | 59 => ⟨S4x4, .f32⟩
  | 60 => ⟨S4x4, .f32⟩
  | 61 => ⟨S4x4x1x1, .f32⟩
  | 62 => ⟨S4x4x64x128, .f32⟩
  | 63 => ⟨S4x4x64x128, .f32⟩
  | 64 => ⟨S4x4x64x1, .f32⟩
  | 65 => ⟨S4x4x64x64, .f32⟩
  | 66 => ⟨S4x4x64x64, .f32⟩
  | 67 => ⟨S4x4x64x128, .f32⟩
  | 68 => ⟨S4x4x64x128, .f32⟩
  | 69 => ⟨S4x4x1, .f32⟩
  | 70 => ⟨S4x4x64, .f32⟩
  | 71 => ⟨S4x4x64, .f32⟩
  | 72 => ⟨S4x4x64, .f32⟩
  | 73 => ⟨S4x4x64, .f32⟩
  | 74 => ⟨S1x4x4x64x128, .f32⟩
  | 75 => ⟨S_, .i32⟩
  | 76 => ⟨S_, .i32⟩
  | 77 => ⟨S_, .i32⟩
  | 78 => ⟨S_, .i32⟩
  | 79 => ⟨S128x4x4x64x128, .f32⟩
  | 80 => ⟨S_, .i32⟩
  | 81 => ⟨S_, .i32⟩
  | 82 => ⟨S4x128x64x4x128, .f32⟩
  | 83 => ⟨S4x8192x4x128, .f32⟩
  | 84 => ⟨S4x128, .f32⟩
  | 85 => ⟨S4x8192x4x128, .f32⟩
  | 86 => ⟨S_, .f32⟩
  | 87 => ⟨S4x8192x4, .f32⟩
  | 88 => ⟨S4x8192x4x1, .f32⟩
  | 89 => ⟨S_, .f32⟩
  | 90 => ⟨S4x8192x4x1, .f32⟩
  | 91 => ⟨S4x8192x4x1, .f32⟩
  | 92 => ⟨S_, .f32⟩
  | 93 => ⟨S4x8192x4x1, .f32⟩
  | 94 => ⟨S4x8192x4x1, .f32⟩
  | 95 => ⟨S4x8192x4x1, .f32⟩
  | 96 => ⟨S4x8192x4x128, .f32⟩
  | 97 => ⟨S4x8192x4x128, .f32⟩
  | 98 => ⟨S1x1x4x128, .f32⟩
  | 99 => ⟨S4x8192x4x128, .f32⟩
  | 100 => ⟨S4x8192x4x128, .f32⟩
  | 101 => ⟨S32768x512, .f32⟩
  | 102 => ⟨S32768x512, .f32⟩
  | 103 => ⟨S32768x512, .f32⟩
  | 104 => ⟨S_, .f32⟩
  | 105 => ⟨S32768x512, .f32⟩
  | 106 => ⟨S32768x512, .f32⟩
  | 107 => ⟨S_, .f32⟩
  | 108 => ⟨S32768x512, .f32⟩
  | 109 => ⟨S32768x512, .f32⟩
  | 110 => ⟨S32768x512, .f32⟩
  | 111 => ⟨S32768x512, .bf16⟩
  | _ => ⟨S32768x256, .bf16⟩

abbrev hbmTy (i : Nat) : BufTy := match i / 128 with
  | 0 => hbmTy0_0 i
  | 1 => hbmTy0_1 i
  | _ => ⟨S32768x256, .bf16⟩

abbrev bufTy : (tb : Table) → Fin (tcTables nBuf tb) → BufTy
  | .hbm, ⟨i, _⟩ => hbmTy i
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c : Ref sig .tc := ⟨.hbm, 69, rfl⟩
abbrev main_v41 : Ref sig .tc := ⟨.hbm, 70, rfl⟩
abbrev main_call1_v0 : Ref sig .tc := ⟨.hbm, 71, rfl⟩
abbrev main_call1_c : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_c_0 : Ref sig .tc := ⟨.hbm, 77, rfl⟩
abbrev main_call1_v5 : Ref sig .tc := ⟨.hbm, 78, rfl⟩
abbrev main_v42 : Ref sig .tc := ⟨.hbm, 79, rfl⟩
abbrev main_cst_6 : Ref sig .tc := ⟨.hbm, 80, rfl⟩
abbrev main_v43 : Ref sig .tc := ⟨.hbm, 81, rfl⟩
abbrev main_c_7 : Ref sig .tc := ⟨.hbm, 82, rfl⟩
abbrev main_v44_0 : Ref sig .tc := ⟨.hbm, 83, rfl⟩
abbrev main_v44_1 : Ref sig .tc := ⟨.hbm, 84, rfl⟩
abbrev main_v44_2 : Ref sig .tc := ⟨.hbm, 85, rfl⟩
abbrev main_v44_3 : Ref sig .tc := ⟨.hbm, 86, rfl⟩
abbrev main_v44_4 : Ref sig .tc := ⟨.hbm, 87, rfl⟩
abbrev main_v44_5 : Ref sig .tc := ⟨.hbm, 88, rfl⟩
abbrev main_v44_6 : Ref sig .tc := ⟨.hbm, 89, rfl⟩
abbrev main_v44_7 : Ref sig .tc := ⟨.hbm, 90, rfl⟩
abbrev main_v44_8 : Ref sig .tc := ⟨.hbm, 91, rfl⟩
abbrev main_v44_9 : Ref sig .tc := ⟨.hbm, 92, rfl⟩
abbrev main_v44_10 : Ref sig .tc := ⟨.hbm, 93, rfl⟩
abbrev main_while0c_c_23 : Ref sig .tc := ⟨.hbm, 94, rfl⟩
abbrev main_while0c_v70 : Ref sig .tc := ⟨.hbm, 95, rfl⟩
abbrev main_while0b_call2_c : Ref sig .tc := ⟨.hbm, 96, rfl⟩
abbrev main_while0b_call2_c_0 : Ref sig .tc := ⟨.hbm, 97, rfl⟩
abbrev main_while0b_call2_c_1 : Ref sig .tc := ⟨.hbm, 98, rfl⟩
abbrev main_while0b_call2_c_2 : Ref sig .tc := ⟨.hbm, 99, rfl⟩
abbrev main_while0b_call2_v0 : Ref sig .tc := ⟨.hbm, 100, rfl⟩
abbrev main_while0b_v70 : Ref sig .tc := ⟨.hbm, 101, rfl⟩
abbrev main_while0b_call3_c : Ref sig .tc := ⟨.hbm, 102, rfl⟩
abbrev main_while0b_call3_c_0 : Ref sig .tc := ⟨.hbm, 103, rfl⟩
abbrev main_while0b_call3_c_1 : Ref sig .tc := ⟨.hbm, 104, rfl⟩
abbrev main_while0b_call3_c_2 : Ref sig .tc := ⟨.hbm, 105, rfl⟩
abbrev main_while0b_call3_v0 : Ref sig .tc := ⟨.hbm, 106, rfl⟩
abbrev main_while0b_v71 : Ref sig .tc := ⟨.hbm, 107, rfl⟩
abbrev main_while0b_call4_c : Ref sig .tc := ⟨.hbm, 108, rfl⟩
abbrev main_while0b_call4_c_0 : Ref sig .tc := ⟨.hbm, 109, rfl⟩
abbrev main_while0b_call4_c_1 : Ref sig .tc := ⟨.hbm, 110, rfl⟩
abbrev main_while0b_call4_c_2 : Ref sig .tc := ⟨.hbm, 111, rfl⟩
abbrev main_while0b_call4_v0 : Ref sig .tc := ⟨.hbm, 112, rfl⟩
abbrev main_while0b_v72 : Ref sig .tc := ⟨.hbm, 113, rfl⟩
abbrev main_while0b_call5_c : Ref sig .tc := ⟨.hbm, 114, rfl⟩
abbrev main_while0b_call5_c_0 : Ref sig .tc := ⟨.hbm, 115, rfl⟩
abbrev main_while0b_call5_c_1 : Ref sig .tc := ⟨.hbm, 116, rfl⟩
abbrev main_while0b_call5_v0 : Ref sig .tc := ⟨.hbm, 117, rfl⟩
abbrev main_while0b_v73 : Ref sig .tc := ⟨.hbm, 118, rfl⟩
abbrev main_while0b_call6_c : Ref sig .tc := ⟨.hbm, 119, rfl⟩
abbrev main_while0b_call6_c_0 : Ref sig .tc := ⟨.hbm, 120, rfl⟩
abbrev main_while0b_call6_c_1 : Ref sig .tc := ⟨.hbm, 121, rfl⟩
abbrev main_while0b_call6_v0 : Ref sig .tc := ⟨.hbm, 122, rfl⟩
abbrev main_while0b_v74 : Ref sig .tc := ⟨.hbm, 123, rfl⟩
abbrev main_while0b_call7_call0_cst : Ref sig .tc := ⟨.hbm, 124, rfl⟩
abbrev main_while0b_call7_call0_v0 : Ref sig .tc := ⟨.hbm, 125, rfl⟩
abbrev main_while0b_v75 : Ref sig .tc := ⟨.hbm, 126, rfl⟩
abbrev main_while0b_v76 : Ref sig .tc := ⟨.hbm, 127, rfl⟩
abbrev main_while0b_v77 : Ref sig .tc := ⟨.hbm, 128, rfl⟩
abbrev main_while0b_v78 : Ref sig .tc := ⟨.hbm, 129, rfl⟩
abbrev main_while0b_v79 : Ref sig .tc := ⟨.hbm, 130, rfl⟩
abbrev main_while0b_v80 : Ref sig .tc := ⟨.hbm, 131, rfl⟩
abbrev main_while0b_v81 : Ref sig .tc := ⟨.hbm, 132, rfl⟩
abbrev main_while0b_v82 : Ref sig .tc := ⟨.hbm, 133, rfl⟩
abbrev main_while0b_v83 : Ref sig .tc := ⟨.hbm, 134, rfl⟩
abbrev main_while0b_cst_23 : Ref sig .tc := ⟨.hbm, 135, rfl⟩
abbrev main_while0b_call8_v0 : Ref sig .tc := ⟨.hbm, 136, rfl⟩
abbrev main_while0b_call8_v1 : Ref sig .tc := ⟨.hbm, 137, rfl⟩
abbrev main_while0b_call8_v2 : Ref sig .tc := ⟨.hbm, 138, rfl⟩
abbrev main_while0b_v84 : Ref sig .tc := ⟨.hbm, 139, rfl⟩
abbrev main_while0b_v85 : Ref sig .tc := ⟨.hbm, 140, rfl⟩
abbrev main_while0b_v86 : Ref sig .tc := ⟨.hbm, 141, rfl⟩
abbrev main_while0b_v87 : Ref sig .tc := ⟨.hbm, 142, rfl⟩
abbrev main_while0b_cst_24 : Ref sig .tc := ⟨.hbm, 143, rfl⟩
abbrev main_while0b_v88 : Ref sig .tc := ⟨.hbm, 144, rfl⟩
abbrev main_while0b_v89 : Ref sig .tc := ⟨.hbm, 145, rfl⟩
abbrev main_while0b_v90 : Ref sig .tc := ⟨.hbm, 146, rfl⟩
abbrev main_while0b_v91 : Ref sig .tc := ⟨.hbm, 147, rfl⟩
abbrev main_while0b_v92 : Ref sig .tc := ⟨.hbm, 148, rfl⟩
abbrev main_while0b_v93 : Ref sig .tc := ⟨.hbm, 149, rfl⟩
abbrev main_while0b_v94 : Ref sig .tc := ⟨.hbm, 150, rfl⟩
abbrev main_while0b_v95 : Ref sig .tc := ⟨.hbm, 151, rfl⟩
abbrev main_while0b_v96 : Ref sig .tc := ⟨.hbm, 152, rfl⟩
abbrev main_while0b_v97 : Ref sig .tc := ⟨.hbm, 153, rfl⟩
abbrev main_while0b_v98 : Ref sig .tc := ⟨.hbm, 154, rfl⟩
abbrev main_while0b_v99 : Ref sig .tc := ⟨.hbm, 155, rfl⟩
abbrev main_while0b_v100 : Ref sig .tc := ⟨.hbm, 156, rfl⟩
abbrev main_while0b_v101 : Ref sig .tc := ⟨.hbm, 157, rfl⟩
abbrev main_while0b_v102 : Ref sig .tc := ⟨.hbm, 158, rfl⟩
abbrev main_while0b_v103 : Ref sig .tc := ⟨.hbm, 159, rfl⟩
abbrev main_while0b_cst_25 : Ref sig .tc := ⟨.hbm, 160, rfl⟩
abbrev main_while0b_v104 : Ref sig .tc := ⟨.hbm, 161, rfl⟩
abbrev main_while0b_v105 : Ref sig .tc := ⟨.hbm, 162, rfl⟩
abbrev main_while0b_v106 : Ref sig .tc := ⟨.hbm, 163, rfl⟩
abbrev main_while0b_v107 : Ref sig .tc := ⟨.hbm, 164, rfl⟩
abbrev main_while0b_v108 : Ref sig .tc := ⟨.hbm, 165, rfl⟩
abbrev main_while0b_v109 : Ref sig .tc := ⟨.hbm, 166, rfl⟩
abbrev main_while0b_v110 : Ref sig .tc := ⟨.hbm, 167, rfl⟩
abbrev main_while0b_v111 : Ref sig .tc := ⟨.hbm, 168, rfl⟩
abbrev main_while0b_v112 : Ref sig .tc := ⟨.hbm, 169, rfl⟩
abbrev main_while0b_v113 : Ref sig .tc := ⟨.hbm, 170, rfl⟩
abbrev main_while0b_v114 : Ref sig .tc := ⟨.hbm, 171, rfl⟩
abbrev main_while0b_v115 : Ref sig .tc := ⟨.hbm, 172, rfl⟩
abbrev main_while0b_v116 : Ref sig .tc := ⟨.hbm, 173, rfl⟩
abbrev main_while0b_v117 : Ref sig .tc := ⟨.hbm, 174, rfl⟩
abbrev main_while0b_v118 : Ref sig .tc := ⟨.hbm, 175, rfl⟩
abbrev main_while0b_v119 : Ref sig .tc := ⟨.hbm, 176, rfl⟩
abbrev main_while0b_v120 : Ref sig .tc := ⟨.hbm, 177, rfl⟩
abbrev main_while0b_v121 : Ref sig .tc := ⟨.hbm, 178, rfl⟩
abbrev main_while0b_cst_26 : Ref sig .tc := ⟨.hbm, 179, rfl⟩
abbrev main_while0b_v122 : Ref sig .tc := ⟨.hbm, 180, rfl⟩
abbrev main_while0b_v123 : Ref sig .tc := ⟨.hbm, 181, rfl⟩
abbrev main_while0b_v124 : Ref sig .tc := ⟨.hbm, 182, rfl⟩
abbrev main_while0b_v125 : Ref sig .tc := ⟨.hbm, 183, rfl⟩
abbrev main_while0b_v126 : Ref sig .tc := ⟨.hbm, 184, rfl⟩
abbrev main_while0b_v127 : Ref sig .tc := ⟨.hbm, 185, rfl⟩
abbrev main_while0b_v128 : Ref sig .tc := ⟨.hbm, 186, rfl⟩
abbrev main_while0b_v129 : Ref sig .tc := ⟨.hbm, 187, rfl⟩
abbrev main_while0b_v130 : Ref sig .tc := ⟨.hbm, 188, rfl⟩
abbrev main_while0b_v131 : Ref sig .tc := ⟨.hbm, 189, rfl⟩
abbrev main_while0b_v132 : Ref sig .tc := ⟨.hbm, 190, rfl⟩
abbrev main_while0b_v133 : Ref sig .tc := ⟨.hbm, 191, rfl⟩
abbrev main_while0b_v134 : Ref sig .tc := ⟨.hbm, 192, rfl⟩
abbrev main_while0b_v135 : Ref sig .tc := ⟨.hbm, 193, rfl⟩
abbrev main_while0b_v136 : Ref sig .tc := ⟨.hbm, 194, rfl⟩
abbrev main_while0b_v137 : Ref sig .tc := ⟨.hbm, 195, rfl⟩
abbrev main_while0b_v138 : Ref sig .tc := ⟨.hbm, 196, rfl⟩
abbrev main_while0b_v139 : Ref sig .tc := ⟨.hbm, 197, rfl⟩
abbrev main_while0b_v140 : Ref sig .tc := ⟨.hbm, 198, rfl⟩
abbrev main_while0b_v141 : Ref sig .tc := ⟨.hbm, 199, rfl⟩
abbrev main_while0b_v142 : Ref sig .tc := ⟨.hbm, 200, rfl⟩
abbrev main_while0b_v143 : Ref sig .tc := ⟨.hbm, 201, rfl⟩
abbrev main_while0b_call9_v0 : Ref sig .tc := ⟨.hbm, 202, rfl⟩
abbrev main_while0b_call9_c : Ref sig .tc := ⟨.hbm, 203, rfl⟩
abbrev main_while0b_call9_c_0 : Ref sig .tc := ⟨.hbm, 204, rfl⟩
abbrev main_while0b_call9_c_1 : Ref sig .tc := ⟨.hbm, 205, rfl⟩
abbrev main_while0b_call9_c_2 : Ref sig .tc := ⟨.hbm, 206, rfl⟩
abbrev main_while0b_v144 : Ref sig .tc := ⟨.hbm, 207, rfl⟩
abbrev main_while0b_c_27 : Ref sig .tc := ⟨.hbm, 208, rfl⟩
abbrev main_while0b_v145 : Ref sig .tc := ⟨.hbm, 209, rfl⟩
abbrev main_v45 : Ref sig .tc := ⟨.hbm, 210, rfl⟩
abbrev main_v46 : Ref sig .tc := ⟨.hbm, 211, rfl⟩
abbrev main_v47 : Ref sig .tc := ⟨.hbm, 212, rfl⟩
abbrev main_v48 : Ref sig .tc := ⟨.hbm, 213, rfl⟩
abbrev main_cst_8 : Ref sig .tc := ⟨.hbm, 214, rfl⟩
abbrev main_v49 : Ref sig .tc := ⟨.hbm, 215, rfl⟩
abbrev main_v50 : Ref sig .tc := ⟨.hbm, 216, rfl⟩
abbrev main_cst_9 : Ref sig .tc := ⟨.hbm, 217, rfl⟩
abbrev main_v51 : Ref sig .tc := ⟨.hbm, 218, rfl⟩
abbrev main_v52 : Ref sig .tc := ⟨.hbm, 219, rfl⟩
abbrev main_cst_10 : Ref sig .tc := ⟨.hbm, 220, rfl⟩
abbrev main_v53 : Ref sig .tc := ⟨.hbm, 221, rfl⟩
abbrev main_v54 : Ref sig .tc := ⟨.hbm, 222, rfl⟩
abbrev main_v55 : Ref sig .tc := ⟨.hbm, 223, rfl⟩
abbrev main_v56 : Ref sig .tc := ⟨.hbm, 224, rfl⟩
abbrev main_v57 : Ref sig .tc := ⟨.hbm, 225, rfl⟩
abbrev main_v58 : Ref sig .tc := ⟨.hbm, 226, rfl⟩
abbrev main_v59 : Ref sig .tc := ⟨.hbm, 227, rfl⟩
abbrev main_v60 : Ref sig .tc := ⟨.hbm, 228, rfl⟩
abbrev main_v61 : Ref sig .tc := ⟨.hbm, 229, rfl⟩
abbrev main_v62 : Ref sig .tc := ⟨.hbm, 230, rfl⟩
abbrev main_v63 : Ref sig .tc := ⟨.hbm, 231, rfl⟩
abbrev main_cst_11 : Ref sig .tc := ⟨.hbm, 232, rfl⟩
abbrev main_v64 : Ref sig .tc := ⟨.hbm, 233, rfl⟩
abbrev main_v65 : Ref sig .tc := ⟨.hbm, 234, rfl⟩
abbrev main_cst_12 : Ref sig .tc := ⟨.hbm, 235, rfl⟩
abbrev main_v66 : Ref sig .tc := ⟨.hbm, 236, rfl⟩
abbrev main_v67 : Ref sig .tc := ⟨.hbm, 237, rfl⟩
abbrev main_v68 : Ref sig .tc := ⟨.hbm, 238, rfl⟩
abbrev main_v69 : Ref sig .tc := ⟨.hbm, 239, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S32768x1024 : Shape := ⟨2, ![32768, 1024]⟩
abbrev S32768x512 : Shape := ⟨2, ![32768, 512]⟩
abbrev S32768x2048 : Shape := ⟨2, ![32768, 2048]⟩
abbrev S4x1x1024 : Shape := ⟨3, ![4, 1, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S512x512 : Shape := ⟨2, ![512, 512]⟩
abbrev S512x2048 : Shape := ⟨2, ![512, 2048]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 20
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x2048, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1024x5632, .bf16⟩
  | .hbm, ⟨12, _⟩ => ⟨S2816x1024, .bf16⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1024x5632, .bf16⟩
  | .local _ .vmem, ⟨23, _⟩ => ⟨S2816x1024, .bf16⟩
  | .local _ .vmem, ⟨24, _⟩ => ⟨S512x1024, .f32⟩
  | .local _ .vmem, ⟨25, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x5632 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S32768x1024 : Shape := ⟨2, ![32768, 1024]⟩
abbrev S32768x512 : Shape := ⟨2, ![32768, 512]⟩
abbrev S32768x2048 : Shape := ⟨2, ![32768, 2048]⟩
abbrev S4x1x1024 : Shape := ⟨3, ![4, 1, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1024 : Shape := ⟨1, ![1024]⟩
abbrev S4x8192x1024 : Shape := ⟨3, ![4, 8192, 1024]⟩
abbrev S4x8192x512 : Shape := ⟨3, ![4, 8192, 512]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 127
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x2048, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1024x5632, .bf16⟩
  | .hbm, ⟨12, _⟩ => ⟨S2816x1024, .bf16⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S4x8192x1024, .f32⟩
  | .hbm, ⟨17, _⟩ => ⟨S32768x512, .f32⟩
  | .hbm, ⟨18, _⟩ => ⟨S4x8192x512, .f32⟩
  | .hbm, ⟨19, _⟩ => ⟨S32768x512, .f32⟩
  | .hbm, ⟨20, _⟩ => ⟨S4x8192x512, .f32⟩
  | .hbm, ⟨21, _⟩ => ⟨S4x8192x2048, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1024, .f32⟩
  | .hbm, ⟨31, _⟩ => ⟨S4x8192x1024, .f32⟩
  | .hbm, ⟨32, _⟩ => ⟨S512x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S_, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192x1024, .f32⟩
  | .hbm, ⟨42, _⟩ => ⟨S4x8192x1024, .f32⟩
  | .hbm, ⟨43, _⟩ => ⟨S512x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S1024x1024, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S4x8192x1, .f32⟩
  | .hbm, ⟨60, _⟩ => ⟨S4x8192x1024, .f32⟩
  | .hbm, ⟨61, _⟩ => ⟨S4x8192x1024, .f32⟩
  | .hbm, ⟨62, _⟩ => ⟨S1x1x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S_, .f32⟩
  | .hbm, ⟨70, _⟩ => ⟨S4x8192, .f32⟩
  | .hbm, ⟨71, _⟩ => ⟨S4x8192x1, .f32⟩
  | .hbm, ⟨72, _⟩ => ⟨S_, .f32⟩
  | .hbm, ⟨73, _⟩ => ⟨S4x8192x1, .f32⟩
  | .hbm, ⟨74, _⟩ => ⟨S4x8192x1, .f32⟩
  | .hbm, ⟨75, _⟩ => ⟨S_, .f32⟩
  | .hbm, ⟨76, _⟩ => ⟨S4x8192x1, .f32⟩
  | .hbm, ⟨77, _⟩ => ⟨S4x8192x1, .f32⟩
  | .hbm, ⟨78, _⟩ => ⟨S4x8192x1, .f32⟩
  | .hbm, ⟨79, _⟩ => ⟨S4x8192x1024, .f32⟩
  | .hbm, ⟨80, _⟩ => ⟨S4x8192x1024, .f32⟩
  | .hbm, ⟨81, _⟩ => ⟨S1x1x1024, .f32⟩
  | .hbm, ⟨82, _⟩ => ⟨S4x8192x1024, .f32⟩
  | .hbm, ⟨83, _⟩ => ⟨S4x8192x1024, .f32⟩
  | .hbm, ⟨84, _⟩ => ⟨S_, .f32⟩
  | .hbm, ⟨85, _⟩ => ⟨S4x1x1024, .f32⟩
  | .hbm, ⟨86, _⟩ => ⟨S4x1x1024, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S1024x5632, .f32⟩
  | .hbm, ⟨92, _⟩ => ⟨S4x8192x5632, .f32⟩
  | .hbm, ⟨93, _⟩ => ⟨S4x8192x2816, .f32⟩
  | .hbm, ⟨94, _⟩ => ⟨S4x8192x2816, .f32⟩
  | .hbm, ⟨95, _⟩ => ⟨S4x8192x2816, .f32⟩
  | .hbm, ⟨96, _⟩ => ⟨S4x8192x2816, .f32⟩
  | .hbm, ⟨97, _⟩ => ⟨S_, .f32⟩
  | .hbm, ⟨98, _⟩ => ⟨S4x8192x2816, .f32⟩
  | .hbm, ⟨99, _⟩ => ⟨S4x8192x2816, .f32⟩
  | .hbm, ⟨100, _⟩ => ⟨S_, .f32⟩
  | .hbm, ⟨101, _⟩ => ⟨S4x8192x2816, .f32⟩
  | .hbm, ⟨102, _⟩ => ⟨S4x8192x2816, .f32⟩
  | .hbm, ⟨103, _⟩ => ⟨S4x8192x2816, .f32⟩
  | .hbm, ⟨104, _⟩ => ⟨S4x8192x2816, .f32⟩
  | .hbm, ⟨105, _⟩ => ⟨S2816x1024, .f32⟩
  | .hbm, ⟨106, _⟩ => ⟨S4x8192x1024, .f32⟩
  | .hbm, ⟨107, _⟩ => ⟨S4x8192x1024, .f32⟩
  | .hbm, ⟨108, _⟩ => ⟨S_, .f32⟩
  | .hbm, ⟨109, _⟩ => ⟨S4x8192, .f32⟩
  | .hbm, ⟨110, _⟩ => ⟨S4x8192x1, .f32⟩
  | .hbm, ⟨111, _⟩ => ⟨S_, .f32⟩
  | .hbm, ⟨112, _⟩ => ⟨S4x8192x1, .f32⟩
  | .hbm, ⟨113, _⟩ => ⟨S4x8192x1, .f32⟩
  | .hbm, ⟨114, _⟩ => ⟨S_, .f32⟩
  | .hbm, ⟨115, _⟩ => ⟨S4x8192x1, .f32⟩
  | .hbm, ⟨116, _⟩ => ⟨S4x8192x1, .f32⟩
  | .hbm, ⟨117, _⟩ => ⟨S4x8192x1, .f32⟩
  | .hbm, ⟨118, _⟩ => ⟨S4x8192x1024, .f32⟩
  | .hbm, ⟨119, _⟩ => ⟨S4x8192x1024, .f32⟩
  | .hbm, ⟨120, _⟩ => ⟨S1x1x1024, .f32⟩
  | .hbm, ⟨121, _⟩ => ⟨S4x8192x1024, .f32⟩
  | .hbm, ⟨122, _⟩ => ⟨S4x8192x1024, .f32⟩
  | .hbm, ⟨123, _⟩ => ⟨S4x8192x1024, .f32⟩
  | .hbm, ⟨124, _⟩ => ⟨S4x8192x1024, .f32⟩
  | .hbm, ⟨125, _⟩ => ⟨S4x8192x1024, .f32⟩
  | .hbm, ⟨126, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call0_v0 : Ref sig .tc := ⟨.hbm, 95, rfl⟩
abbrev main_call0_v1 : Ref sig .tc := ⟨.hbm, 96, rfl⟩
abbrev main_call0_cst : Ref sig .tc := ⟨.hbm, 97, rfl⟩
abbrev main_call0_v2 : Ref sig .tc := ⟨.hbm, 98, rfl⟩
abbrev main_call0_v3 : Ref sig .tc := ⟨.hbm, 99, rfl⟩
abbrev main_call0_cst_0 : Ref sig .tc := ⟨.hbm, 100, rfl⟩
abbrev main_call0_v4 : Ref sig .tc := ⟨.hbm, 101, rfl⟩
abbrev main_call0_v5 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_10 : Ref sig .tc := ⟨.hbm, 108, rfl⟩
abbrev main_v73 : Ref sig .tc := ⟨.hbm, 109, rfl⟩
abbrev main_v74 : Ref sig .tc := ⟨.hbm, 110, rfl⟩
abbrev main_cst_11 : Ref sig .tc := ⟨.hbm, 111, rfl⟩
abbrev main_v75 : Ref sig .tc := ⟨.hbm, 112, rfl⟩
abbrev main_v76 : Ref sig .tc := ⟨.hbm, 113, rfl⟩
abbrev main_cst_12 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]
-- ==== Proof.FfnPure.lean ====
/- What the merge and feed-forward body stores, row by row. -/
module

public import proofs.«01_k».proof.Proof.Gen.Kernel2Ideal.Skeleton
public import Idealize.ShloMosaic.Lib.Pointwise

@[expose] public section

set_option maxRecDepth 16384

noncomputable section

namespace Cert.Ffn

open Idealize.ShloMosaic Idealize.ShloMosaic.TcCoe Idealize.SL.Sem
open Cert.Kernel2Ideal Cert.Kernel2Ideal.Gen

/-- One element of the two mixers' gated merge. -/
def mg (ya yb : Fin 512 → EReal) (ga gb : Fin 1024 → EReal) (wa wb : Fin 512 → Fin 1024 → EReal) (d : Fin 1024) : EReal :=
  Ideal.logistic (ga d) * (∑ k, ya k * wa k d) + Ideal.logistic (gb d) * (∑ k, yb k * wb k d)

/-- The factor that brings a row of 1024 elements to mean square one. -/
def rs (x : Fin 1024 → EReal) : EReal :=
  Ideal.rsqrt (Ideal.div (∑ l, x l * x l) (Ideal.ofBits .f32 0x44800000#32) + Ideal.ofBits .f32 0x358637BD#32)

/-- One hidden element of the gated feed-forward part, from its two projections. -/
def act (h : Fin 1024 → EReal) (wg wu : Fin 1024 → EReal) : EReal :=
  (∑ k, h k * wg k) * Ideal.logistic (∑ k, h k * wg k) * (∑ k, h k * wu k)

/-- The projected merge of one row. -/
def zz (ya yb : Fin 512 → EReal) (ga gb : Fin 1024 → EReal) (wa wb : Fin 512 → Fin 1024 → EReal) (wo : Fin 1024 → Fin 1024 → EReal) (d : Fin 1024) : EReal :=
  ∑ k, mg ya yb ga gb wa wb k * wo k d

/-- One row after the first residual. -/
def xx (x z ga g : Fin 1024 → EReal) (d : Fin 1024) : EReal := x d + ga d * (z d * rs z * g d)

/-- One row entering the feed-forward part. -/
def hh (x g sc sh : Fin 1024 → EReal) (d : Fin 1024) : EReal := x d * rs x * g d * (1 + sc d) + sh d

/-- The down-projected hidden row, all 2816 hidden elements at once. -/
def ff (h : Fin 1024 → EReal) (wu : Fin 1024 → Fin 5632 → EReal) (wd : Fin 2816 → Fin 1024 → EReal) (d : Fin 1024) : EReal :=
  ∑ c : Fin 2816, act h (fun k => wu k ⟨c, by omega⟩) (fun k => wu k ⟨2816 + c, by omega⟩) * wd c d

/-- The whole call on one row. -/
def row (x : Fin 1024 → EReal) (ya yb : Fin 512 → EReal) (ga gb ga1 sc sh ga2 : Fin 1024 → EReal) (wa wb : Fin 512 → Fin 1024 → EReal)
    (wo : Fin 1024 → Fin 1024 → EReal) (gm g1 g2 : Fin 1024 → EReal) (wu : Fin 1024 → Fin 5632 → EReal) (wd : Fin 2816 → Fin 1024 → EReal) (d : Fin 1024) : EReal :=
  xx (xx x (zz ya yb ga gb wa wb wo) ga1 gm) (ff (hh (xx x (zz ya yb ga gb wa wb wo) ga1 gm) g1 sc sh) wu wd) ga2 g2 d

section
variable (v60 : FVec Ideal S512x1024 .bf16) (v62 v64 : FVec Ideal S1024x256 .bf16) (r : Fin 512)

theorem pay3_at (v0 : FVec Ideal S512x512 .bf16) (v1 : FVec Ideal S512x1024 .bf16) (v3 : FVec Ideal S512x512 .bf16) (v4 : FVec Ideal S512x1024 .bf16) (v6 v9 : FVec Ideal S512x1024 .f32) (v14 : FVec Ideal S1024x1024 .bf16) (d : Fin 1024) :
    k0_pay3 (F := Ideal) v0 v1 v3 v4 v6 v9 v14 (ix2 r d)
      = zz (fun k => v0 (ix2 r k)) (fun k => v3 (ix2 r k)) (fun k => v6 (ix2 r k)) (fun k => v9 (ix2 r k)) (fun k l => v1 (ix2 k l)) (fun k l => v4 (ix2 k l)) (fun k l => v14 (ix2 k l)) d
        * rs (zz (fun k => v0 (ix2 r k)) (fun k => v3 (ix2 r k)) (fun k => v6 (ix2 r k)) (fun k => v9 (ix2 r k)) (fun k l => v1 (ix2 k l)) (fun k l => v4 (ix2 k l)) (fun k l => v14 (ix2 k l))) := by
  pointwise [k0_pay3, zz, rs, mg]

theorem pay5_at (v16 : FVec Ideal S512x1024 .f32) (v18 : FVec Ideal S1x1024 .f32) (v30 v31 : FVec Ideal S512x1024 .f32) (d : Fin 1024) :
    k0_pay5 (F := Ideal) v16 v18 v30 v31 (ix2 r d) = v16 (ix2 r d) + v18 (ix2 0 d) * (v30 (ix2 r d) * v31 (ix2 r d)) := by
  pointwise [k0_pay5]

theorem pay6_at (v16 : FVec Ideal S512x1024 .f32) (v18 : FVec Ideal S1x1024 .f32) (v30 v31 : FVec Ideal S512x1024 .f32) (v36 : FVec Ideal S1x1024 .f32) (v50 v56 : FVec Ideal S1x1x1024 .f32) (d : Fin 1024) :
    k0_pay6 (F := Ideal) v16 v18 v30 v31 v36 v50 v56 (ix2 r d)
      = hh (fun l => k0_pay5 (F := Ideal) v16 v18 v30 v31 (ix2 r l)) (fun l => v36 (ix2 0 l)) (fun l => v50 (ix3 0 0 l)) (fun l => v56 (ix3 0 0 l)) d := by
  pointwise [k0_pay6, hh, rs]

theorem pay8_at (v16 : FVec Ideal S512x1024 .f32) (v18 : FVec Ideal S1x1024 .f32) (v30 v31 : FVec Ideal S512x1024 .f32) (v36 : FVec Ideal S1x1024 .f32) (v50 v56 : FVec Ideal S1x1x1024 .f32) (d : Fin 256) :
    k0_pay8 (F := Ideal) v16 v18 v30 v31 v36 v50 v56 v62 v64 (ix2 r d)
      = act (fun k => k0_pay6 (F := Ideal) v16 v18 v30 v31 v36 v50 v56 (ix2 r k)) (fun k => v62 (ix2 k d)) (fun k => v64 (ix2 k d)) := by
  pointwise [k0_pay8, act]

theorem pay10_at (d : Fin 256) :
    k0_pay10 (F := Ideal) v60 v62 v64 (ix2 r d) = act (fun k => v60 (ix2 r k)) (fun k => v62 (ix2 k d)) (fun k => v64 (ix2 k d)) := by
  pointwise [k0_pay10, act]

theorem pay12_at (d : Fin 256) :
    k0_pay12 (F := Ideal) v60 v62 v64 (ix2 r d) = act (fun k => v60 (ix2 r k)) (fun k => v62 (ix2 k d)) (fun k => v64 (ix2 k d)) := by
  pointwise [k0_pay12, act]

theorem pay14_at (d : Fin 256) :
    k0_pay14 (F := Ideal) v60 v62 v64 (ix2 r d) = act (fun k => v60 (ix2 r k)) (fun k => v62 (ix2 k d)) (fun k => v64 (ix2 k d)) := by
  pointwise [k0_pay14, act]

variable (v61 : FVec Ideal S512x1024 .f32) (v69 : FVec Ideal S512x256 .bf16) (v70 : FVec Ideal S256x1024 .bf16) (v73 v75 : FVec Ideal S1024x256 .bf16)
  (v81 : FVec Ideal S256x1024 .bf16) (v84 v86 : FVec Ideal S1024x256 .bf16) (v92 : FVec Ideal S256x1024 .bf16) (d : Fin 1024)

/-- One chunk of the feed-forward part: the hidden elements of the chunk times its rows of the down projection. -/
def chunk (h : Fin 1024 → EReal) (v73 v75 : FVec Ideal S1024x256 .bf16) (v81 : FVec Ideal S256x1024 .bf16) (d : Fin 1024) : EReal :=
  ∑ c : Fin 256, act h (fun k => v73 (ix2 k c)) (fun k => v75 (ix2 k c)) * v81 (ix2 c d)

theorem pay7_at : k0_pay7 (F := Ideal) (ix2 r d) = 0 := by pointwise [k0_pay7]

theorem pay9_at : k0_pay9 (F := Ideal) v60 v61 v69 v70 v73 v75 v81 v84 v86 v92 (ix2 r d)
    = v61 (ix2 r d) + (∑ c : Fin 256, v69 (ix2 r c) * v70 (ix2 c d)) + chunk (fun k => v60 (ix2 r k)) v73 v75 v81 d + chunk (fun k => v60 (ix2 r k)) v84 v86 v92 d := by
  pointwise [k0_pay9, act, chunk]

theorem pay11_at : k0_pay11 (F := Ideal) v60 v61 v69 v70 v73 v75 v81 v84 v86 v92 (ix2 r d)
    = v61 (ix2 r d) + (∑ c : Fin 256, v69 (ix2 r c) * v70 (ix2 c d)) + chunk (fun k => v60 (ix2 r k)) v73 v75 v81 d + chunk (fun k => v60 (ix2 r k)) v84 v86 v92 d := by
  pointwise [k0_pay11, act, chunk]

theorem pay13_at : k0_pay13 (F := Ideal) v60 v61 v69 v70 v73 v75 v81 v84 v86 v92 (ix2 r d)
    = v61 (ix2 r d) + (∑ c : Fin 256, v69 (ix2 r c) * v70 (ix2 c d)) + chunk (fun k => v60 (ix2 r k)) v73 v75 v81 d + chunk (fun k => v60 (ix2 r k)) v84 v86 v92 d := by
  pointwise [k0_pay13, act, chunk]

theorem pay1_at (v35 v160 : FVec Ideal S512x1024 .f32) (v183 : FVec Ideal S1x1x1024 .f32) (v185 : FVec Ideal S1x1024 .f32) :
    k0_pay1 (F := Ideal) v35 v60 v160 v69 v70 v73 v75 v81 v183 v185 (ix2 r d)
      = xx (fun l => v35 (ix2 r l)) (fun l => v160 (ix2 r l) + (∑ c : Fin 256, v69 (ix2 r c) * v70 (ix2 c l)) + chunk (fun k => v60 (ix2 r k)) v73 v75 v81 l)
          (fun l => v183 (ix3 0 0 l)) (fun l => v185 (ix2 0 l)) d := by
  pointwise [k0_pay1, act, chunk, xx, rs]

theorem pay2_at (v : FVec Ideal S1x1x1024 .f32) : k0_pay2 (F := Ideal) v (ix2 0 d) = v (ix3 0 0 d) := by pointwise [k0_pay2]
theorem pay4_at (v : FVec Ideal S1x1024 .f32) : k0_pay4 (F := Ideal) v (ix2 r d) = v (ix2 0 d) := by pointwise [k0_pay4]

end

/-- The hidden axis cut into eleven chunks of 256. -/
theorem ff_chunks (h : Fin 1024 → EReal) (wu : Fin 1024 → Fin 5632 → EReal) (wd : Fin 2816 → Fin 1024 → EReal) (d : Fin 1024) :
    ff h wu wd d = ∑ j : Fin 11, ∑ c : Fin 256, act h (fun k => wu k ⟨j * 256 + c, by omega⟩) (fun k => wu k ⟨2816 + j * 256 + c, by omega⟩) * wd ⟨j * 256 + c, by omega⟩ d := by
  unfold ff
  refine (Fin.sum_univ_tiles 11 256 rfl _).trans ?_
  simp only [add_assoc]

/-- A sum of eleven terms, one after the other. -/
theorem sum_eleven (F : Fin 11 → EReal) : ∑ j, F j = F 0 + F 1 + F 2 + F 3 + F 4 + F 5 + F 6 + F 7 + F 8 + F 9 + F 10 := by
  simp only [Fin.sum_univ_succ, Fin.sum_univ_zero, add_zero, zero_add, add_assoc]
  rfl

/-- The same eleven chunks, one after the other. -/
theorem ff_eleven (h : Fin 1024 → EReal) (wu : Fin 1024 → Fin 5632 → EReal) (wd : Fin 2816 → Fin 1024 → EReal) :
    ff h wu wd = fun d => (∑ c : Fin 256, act h (fun k => wu k ⟨c, by omega⟩) (fun k => wu k ⟨2816 + c, by omega⟩) * wd ⟨c, by omega⟩ d)
      + (∑ c : Fin 256, act h (fun k => wu k ⟨256 + c, by omega⟩) (fun k => wu k ⟨3072 + c, by omega⟩) * wd ⟨256 + c, by omega⟩ d)
      + (∑ c : Fin 256, act h (fun k => wu k ⟨512 + c, by omega⟩) (fun k => wu k ⟨3328 + c, by omega⟩) * wd ⟨512 + c, by omega⟩ d)
      + (∑ c : Fin 256, act h (fun k => wu k ⟨768 + c, by omega⟩) (fun k => wu k ⟨3584 + c, by omega⟩) * wd ⟨768 + c, by omega⟩ d)
      + (∑ c : Fin 256, act h (fun k => wu k ⟨1024 + c, by omega⟩) (fun k => wu k ⟨3840 + c, by omega⟩) * wd ⟨1024 + c, by omega⟩ d)
      + (∑ c : Fin 256, act h (fun k => wu k ⟨1280 + c, by omega⟩) (fun k => wu k ⟨4096 + c, by omega⟩) * wd ⟨1280 + c, by omega⟩ d)
      + (∑ c : Fin 256, act h (fun k => wu k ⟨1536 + c, by omega⟩) (fun k => wu k ⟨4352 + c, by omega⟩) * wd ⟨1536 + c, by omega⟩ d)
      + (∑ c : Fin 256, act h (fun k => wu k ⟨1792 + c, by omega⟩) (fun k => wu k ⟨4608 + c, by omega⟩) * wd ⟨1792 + c, by omega⟩ d)
      + (∑ c : Fin 256, act h (fun k => wu k ⟨2048 + c, by omega⟩) (fun k => wu k ⟨4864 + c, by omega⟩) * wd ⟨2048 + c, by omega⟩ d)
      + (∑ c : Fin 256, act h (fun k => wu k ⟨2304 + c, by omega⟩) (fun k => wu k ⟨5120 + c, by omega⟩) * wd ⟨2304 + c, by omega⟩ d)
      + (∑ c : Fin 256, act h (fun k => wu k ⟨2560 + c, by omega⟩) (fun k => wu k ⟨5376 + c, by omega⟩) * wd ⟨2560 + c, by omega⟩ d) := by
  funext d
  rw [ff_chunks, sum_eleven]
  have e : ∀ c : Fin 256, ((0 : Fin 11) : ℕ) * 256 + c = c := fun c => by simp
  simp only [e]
  rfl

end Cert.Ffn

end
-- ==== Proof.FfnRef.lean ====
/- The reference of the merge and feed-forward call, read at an index. -/
module

public import proofs.«01_k».proof.Proof.Gen.Reference2Ideal.Run
public import proofs.«01_k».proof.Proof.FfnPure

@[expose] public section

set_option maxRecDepth 16384

noncomputable section

namespace Cert.Ffn.Ref

open Idealize.ShloMosaic Idealize.ShloMosaic.TcCoe Idealize.SL.Sem
open Cert.Reference2Ideal Cert.Reference2Ideal.Gen Cert.Reference2Ideal.Value

variable (V0 : Valuation τ sig (Elt Ideal)) (b : Fin 4) (s : Fin 8192)

/-! The rows and weights the arguments hold. -/
def rw0 (d : Fin 1024) : EReal := (show FVec Ideal S32768x1024 .f32 from V0 (Proc.devRef .tc main_arg0)) (ix2 ⟨b * 8192 + s, by omega⟩ d)
def rw1 (d : Fin 512) : EReal := (show FVec Ideal S32768x512 .bf16 from V0 (Proc.devRef .tc main_arg1)) (ix2 ⟨b * 8192 + s, by omega⟩ d)
def rw2 (d : Fin 512) : EReal := (show FVec Ideal S32768x512 .bf16 from V0 (Proc.devRef .tc main_arg2)) (ix2 ⟨b * 8192 + s, by omega⟩ d)
def rw3 (d : Fin 1024) : EReal := (show FVec Ideal S32768x2048 .f32 from V0 (Proc.devRef .tc main_arg3)) (ix2 ⟨b * 8192 + s, by omega⟩ ⟨d, by omega⟩)
def rw3' (d : Fin 1024) : EReal := (show FVec Ideal S32768x2048 .f32 from V0 (Proc.devRef .tc main_arg3)) (ix2 ⟨b * 8192 + s, by omega⟩ ⟨1024 + d, by omega⟩)
def md4 (d : Fin 1024) : EReal := (show FVec Ideal S4x1x1024 .f32 from V0 (Proc.devRef .tc main_arg4)) (ix3 b 0 d)
def md5 (d : Fin 1024) : EReal := (show FVec Ideal S4x1x1024 .f32 from V0 (Proc.devRef .tc main_arg5)) (ix3 b 0 d)
def md6 (d : Fin 1024) : EReal := (show FVec Ideal S4x1x1024 .f32 from V0 (Proc.devRef .tc main_arg6)) (ix3 b 0 d)
def md7 (d : Fin 1024) : EReal := (show FVec Ideal S4x1x1024 .f32 from V0 (Proc.devRef .tc main_arg7)) (ix3 b 0 d)
def wt8 (k : Fin 512) (d : Fin 1024) : EReal := (show FVec Ideal S512x1024 .bf16 from V0 (Proc.devRef .tc main_arg8)) (ix2 k d)
def wt9 (k : Fin 512) (d : Fin 1024) : EReal := (show FVec Ideal S512x1024 .bf16 from V0 (Proc.devRef .tc main_arg9)) (ix2 k d)
def wt10 (k : Fin 1024) (d : Fin 1024) : EReal := (show FVec Ideal S1024x1024 .bf16 from V0 (Proc.devRef .tc main_arg10)) (ix2 k d)
def wt11 (k : Fin 1024) (d : Fin 5632) : EReal := (show FVec Ideal S1024x5632 .bf16 from V0 (Proc.devRef .tc main_arg11)) (ix2 k d)
def wt12 (k : Fin 2816) (d : Fin 1024) : EReal := (show FVec Ideal S2816x1024 .bf16 from V0 (Proc.devRef .tc main_arg12)) (ix2 k d)
def gn13 (d : Fin 1024) : EReal := (show FVec Ideal S1024 .f32 from V0 (Proc.devRef .tc main_arg13)) (ix1 d)
def gn14 (d : Fin 1024) : EReal := (show FVec Ideal S1024 .f32 from V0 (Proc.devRef .tc main_arg14)) (ix1 d)
def gn15 (d : Fin 1024) : EReal := (show FVec Ideal S1024 .f32 from V0 (Proc.devRef .tc main_arg15)) (ix1 d)

/-- The reference's projected merge, its first residual, the row entering the feed-forward part. -/
def zR (d : Fin 1024) : EReal := zz (rw1 V0 b s) (rw2 V0 b s) (rw3 V0 b s) (rw3' V0 b s) (wt8 V0) (wt9 V0) (wt10 V0) d
def xR (d : Fin 1024) : EReal := xx (rw0 V0 b s) (zR V0 b s) (md4 V0 b) (gn13 V0) d
def hR (d : Fin 1024) : EReal := hh (xR V0 b s) (gn14 V0) (md5 V0 b) (md6 V0 b) d
def fR (d : Fin 1024) : EReal := ff (hR V0 b s) (wt11 V0) (wt12 V0) d

theorem v28_at (d : Fin 1024) : (show FVec Ideal S4x8192x1024 .f32 from res_main_v28 (F := Ideal) V0) (ix3 b s d) = zR V0 b s d := by
  pointwise [res_main_v28, res_main_v5, zR, zz, mg, rw1, rw2, rw3, rw3', wt8, wt9, wt10, Ideal.logistic]

theorem v44_at (d : Fin 1024) : (show FVec Ideal S4x8192x1024 .f32 from res_main_v44 (F := Ideal) V0) (ix3 b s d) = xR V0 b s d := by
  have h : ∀ l, (show FVec Ideal S4x8192x1024 .f32 from res_main_v28 (F := Ideal) V0) (ix3 b s l) = zR V0 b s l := v28_at V0 b s
  pointwise [res_main_v44, h, xR, xx, rs, rw0, md4, gn13]

theorem v65_at (c : Fin 5632) : (show FVec Ideal S4x8192x5632 .f32 from res_main_v65 (F := Ideal) V0) (ix3 b s c) = ∑ k, hR V0 b s k * wt11 V0 k c := by
  have h : ∀ l, (show FVec Ideal S4x8192x1024 .f32 from res_main_v44 (F := Ideal) V0) (ix3 b s l) = xR V0 b s l := v44_at V0 b s
  pointwise [res_main_v65, h, hR, hh, rs, md5, md6, gn14, wt11]

theorem v71_at (d : Fin 1024) : (show FVec Ideal S4x8192x1024 .f32 from res_main_v71 (F := Ideal) V0) (ix3 b s d) = fR V0 b s d := by
  have h : ∀ l, (show FVec Ideal S4x8192x5632 .f32 from res_main_v65 (F := Ideal) V0) (ix3 b s l) = ∑ k, hR V0 b s k * wt11 V0 k l := v65_at V0 b s
  pointwise [res_main_v71, res_main_v66, h, fR, ff, act, wt12, Ideal.logistic]

/-- The reference's result, as one term of the arguments. -/
def OUT : FVec Ideal S32768x1024 .f32 :=
  shapeCast _ (addf (res_main_v44 V0) (mulf (broadcastInDim S4x8192x1024 ![0, 1, 2] bcast_S4x1x1024_S4x8192x1024_0_1_2 (V0 (Proc.devRef .tc main_arg7))) (mulf (mulf (res_main_v71 V0) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v71 V0) (res_main_v71 V0)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (V0 (Proc.devRef .tc main_arg15))))))) shapeCasts_S4x8192x1024_S32768x1024

theorem OUT_at (hb : (b : ℕ) * 8192 + s < 32768) (d : Fin 1024) :
    OUT V0 (ix2 ⟨b * 8192 + s, hb⟩ d) = row (rw0 V0 b s) (rw1 V0 b s) (rw2 V0 b s) (rw3 V0 b s) (rw3' V0 b s) (md4 V0 b) (md5 V0 b) (md6 V0 b) (md7 V0 b)
      (wt8 V0) (wt9 V0) (wt10 V0) (gn13 V0) (gn14 V0) (gn15 V0) (wt11 V0) (wt12 V0) d := by
  show _ = xx (xR V0 b s) (fR V0 b s) (md7 V0 b) (gn15 V0) d
  have h1 : ∀ l, (show FVec Ideal S4x8192x1024 .f32 from res_main_v44 (F := Ideal) V0) (ix3 b s l) = xR V0 b s l := v44_at V0 b s
  have h2 : ∀ l, (show FVec Ideal S4x8192x1024 .f32 from res_main_v71 (F := Ideal) V0) (ix3 b s l) = fR V0 b s l := v71_at V0 b s
  pointwise [OUT, h1, h2, xx, rs, md7, gn15]

end Cert.Ffn.Ref

end
-- ==== Proof.FfnValue.lean ====
/- The merge and feed-forward call's result array is the reference's. -/
module

public import proofs.«01_k».proof.Proof.Gen.Kernel2Ideal.Value
public import proofs.«01_k».proof.Proof.FfnRef
public import Idealize.ShloMosaic.Lib.Pipeline.ValueKit

@[expose] public section

set_option maxRecDepth 16384

noncomputable section

namespace Cert.Ffn.Val

open Idealize.ShloMosaic Idealize.ShloMosaic.TcCoe Idealize.SL.Sem
open Idealize.ShloMosaic.Pipeline (Dat)
open Cert.Kernel2Ideal Cert.Kernel2Ideal.Gen

section
variable (x0 : FVec Ideal S512x1024 .f32) (x1 x2 : FVec Ideal S512x512 .bf16) (x3 : FVec Ideal S512x2048 .f32) (x4 x5 x6 x7 : FVec Ideal S1x1x1024 .f32)
  (x8 x9 : FVec Ideal S512x1024 .bf16) (x10 : FVec Ideal S1024x1024 .bf16) (x11 x12 x13 : FVec Ideal S1x1024 .f32)
  (x14 : FVec Ideal S1024x5632 .bf16) (x15 : FVec Ideal S2816x1024 .bf16)

/-- Row `r` of what one point stores is the call on row `r` of its blocks. -/
theorem out_at (r : Fin 512) (d : Fin 1024) :
    out0_16 (F := Ideal) x0 x1 x2 x3 x4 x5 x6 x7 x8 x9 x10 x11 x12 x13 x14 x15 (ix2 r d)
      = row (fun k => x0 (ix2 r k)) (fun k => x1 (ix2 r k)) (fun k => x2 (ix2 r k)) (fun k => x3 (ix2 r ⟨k, by omega⟩)) (fun k => x3 (ix2 r ⟨1024 + k, by omega⟩))
          (fun k => x4 (ix3 0 0 k)) (fun k => x5 (ix3 0 0 k)) (fun k => x6 (ix3 0 0 k)) (fun k => x7 (ix3 0 0 k))
          (fun k l => x8 (ix2 k l)) (fun k l => x9 (ix2 k l)) (fun k l => x10 (ix2 k l)) (fun k => x11 (ix2 0 k)) (fun k => x12 (ix2 0 k)) (fun k => x13 (ix2 0 k))
          (fun k l => x14 (ix2 k l)) (fun k l => x15 (ix2 k l)) d := by
  frame_out
  unfold k0_pay18 k0_pay17 k0_pay16 k0_pay15
  simp only [pay1_at, pay13_at, pay11_at, pay9_at, pay14_at, pay12_at, pay10_at, pay8_at, pay7_at, pay6_at, pay5_at, pay2_at, pay4_at, pay3_at]
  pointwise [chunk]
  rw [row, ff_eleven]
  rfl
end

open Cert.Ffn.Ref

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val / 16, 0, 0] ∧ win0_5.index t = ![t.val / 16, 0, 0] ∧ win0_6.index t = ![t.val / 16, 0, 0] ∧ win0_7.index t = ![t.val / 16, 0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![t.val, 0] ∧ t.val < 64 :=
  (by decide +kernel : ∀ t : Fin grid0.N, _)

/-- The reference's arguments hold the kernel's. -/
def Agree (c : Dev nD) (V0 : Valuation Cert.Reference2Ideal.τ Cert.Reference2Ideal.sig (Elt Ideal)) : Prop :=
  (show FVec Ideal S32768x1024 .f32 from V0 (Proc.devRef .tc Cert.Reference2Ideal.main_arg0)) = m ((c : Thread nD τ).loc main_arg0)
    ∧ (show FVec Ideal S32768x512 .bf16 from V0 (Proc.devRef .tc Cert.Reference2Ideal.main_arg1)) = m ((c : Thread nD τ).loc main_arg1)
    ∧ (show FVec Ideal S32768x512 .bf16 from V0 (Proc.devRef .tc Cert.Reference2Ideal.main_arg2)) = m ((c : Thread nD τ).loc main_arg2)
    ∧ (show FVec Ideal S32768x2048 .f32 from V0 (Proc.devRef .tc Cert.Reference2Ideal.main_arg3)) = m ((c : Thread nD τ).loc main_arg3)
    ∧ (show FVec Ideal S4x1x1024 .f32 from V0 (Proc.devRef .tc Cert.Reference2Ideal.main_arg4)) = m ((c : Thread nD τ).loc main_arg4)
    ∧ (show FVec Ideal S4x1x1024 .f32 from V0 (Proc.devRef .tc Cert.Reference2Ideal.main_arg5)) = m ((c : Thread nD τ).loc main_arg5)
    ∧ (show FVec Ideal S4x1x1024 .f32 from V0 (Proc.devRef .tc Cert.Reference2Ideal.main_arg6)) = m ((c : Thread nD τ).loc main_arg6)
    ∧ (show FVec Ideal S4x1x1024 .f32 from V0 (Proc.devRef .tc Cert.Reference2Ideal.main_arg7)) = m ((c : Thread nD τ).loc main_arg7)
    ∧ (show FVec Ideal S512x1024 .bf16 from V0 (Proc.devRef .tc Cert.Reference2Ideal.main_arg8)) = m ((c : Thread nD τ).loc main_arg8)
    ∧ (show FVec Ideal S512x1024 .bf16 from V0 (Proc.devRef .tc Cert.Reference2Ideal.main_arg9)) = m ((c : Thread nD τ).loc main_arg9)
    ∧ (show FVec Ideal S1024x1024 .bf16 from V0 (Proc.devRef .tc Cert.Reference2Ideal.main_arg10)) = m ((c : Thread nD τ).loc main_arg10)
    ∧ (show FVec Ideal S1024x5632 .bf16 from V0 (Proc.devRef .tc Cert.Reference2Ideal.main_arg11)) = m ((c : Thread nD τ).loc main_arg11)
    ∧ (show FVec Ideal S2816x1024 .bf16 from V0 (Proc.devRef .tc Cert.Reference2Ideal.main_arg12)) = m ((c : Thread nD τ).loc main_arg12)
    ∧ (show FVec Ideal S1024 .f32 from V0 (Proc.devRef .tc Cert.Reference2Ideal.main_arg13)) = m ((c : Thread nD τ).loc main_arg13)
    ∧ (show FVec Ideal S1024 .f32 from V0 (Proc.devRef .tc Cert.Reference2Ideal.main_arg14)) = m ((c : Thread nD τ).loc main_arg14)
    ∧ (show FVec Ideal S1024 .f32 from V0 (Proc.devRef .tc Cert.Reference2Ideal.main_arg15)) = m ((c : Thread nD τ).loc main_arg15)

set_option maxHeartbeats 1600000 in
theorem point (c : Dev nD) (V0 : Valuation Cert.Reference2Ideal.τ Cert.Reference2Ideal.sig (Elt Ideal)) (hag : Agree m c V0) (t : Fin cfg0.N) (r : Fin 512) (d : Fin 1024)
    (hb : t.val / 16 < 4) (hs : t.val % 16 * 512 + r < 8192) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r d)
      = OUT V0 (ix2 ⟨t.val / 16 * 8192 + (t.val % 16 * 512 + r), by omega⟩ d) := by
  obtain ⟨h0, h1, h2, h3, h4, h5, h6, h7, h8, h9, h10, h11, h12, h13, h14, h15⟩ := hag
  have e0 : (fun k => iblk m c 0 t (ix2 r k)) = rw0 V0 ⟨t.val / 16, hb⟩ ⟨t.val % 16 * 512 + r, hs⟩ := by
    funext k
    simp only [rw0, h0]
    blk_ext [iblk, V, idx t]
  have e1 : (fun k => iblk m c 1 t (ix2 r k)) = rw1 V0 ⟨t.val / 16, hb⟩ ⟨t.val % 16 * 512 + r, hs⟩ := by
    funext k
    simp only [rw1, h1]
    blk_ext [iblk, V, idx t]
  have e2 : (fun k => iblk m c 2 t (ix2 r k)) = rw2 V0 ⟨t.val / 16, hb⟩ ⟨t.val % 16 * 512 + r, hs⟩ := by
    funext k
    simp only [rw2, h2]
    blk_ext [iblk, V, idx t]
  have e3 : (fun k : Fin 1024 => iblk m c 3 t (ix2 r ⟨k, by omega⟩)) = rw3 V0 ⟨t.val / 16, hb⟩ ⟨t.val % 16 * 512 + r, hs⟩ := by
    funext k
    simp only [rw3, h3]
    blk_ext [iblk, V, idx t]
  have e4 : (fun k : Fin 1024 => iblk m c 3 t (ix2 r ⟨1024 + k, by omega⟩)) = rw3' V0 ⟨t.val / 16, hb⟩ ⟨t.val % 16 * 512 + r, hs⟩ := by
    funext k
    simp only [rw3', h3]
    blk_ext [iblk, V, idx t]
  have e5 : (fun k => iblk m c 4 t (ix3 0 0 k)) = md4 V0 ⟨t.val / 16, hb⟩ := by
    funext k
    simp only [md4, h4]
    blk_ext [iblk, V, idx t]
  have e6 : (fun k => iblk m c 5 t (ix3 0 0 k)) = md5 V0 ⟨t.val / 16, hb⟩ := by
    funext k
    simp only [md5, h5]
    blk_ext [iblk, V, idx t]
  have e7 : (fun k => iblk m c 6 t (ix3 0 0 k)) = md6 V0 ⟨t.val / 16, hb⟩ := by
    funext k
    simp only [md6, h6]
    blk_ext [iblk, V, idx t]
  have e8 : (fun k => iblk m c 7 t (ix3 0 0 k)) = md7 V0 ⟨t.val / 16, hb⟩ := by
    funext k
    simp only [md7, h7]
    blk_ext [iblk, V, idx t]
  have e9 : (fun k l => iblk m c 8 t (ix2 k l)) = wt8 V0 := by
    funext k l
    simp only [wt8, h8]
    blk_ext [iblk, V, idx t]
  have e10 : (fun k l => iblk m c 9 t (ix2 k l)) = wt9 V0 := by
    funext k l
    simp only [wt9, h9]
    blk_ext [iblk, V, idx t]
  have e11 : (fun k l => iblk m c 10 t (ix2 k l)) = wt10 V0 := by
    funext k l
    simp only [wt10, h10]
    blk_ext [iblk, V, idx t]
  have e12 : (fun k => iblk m c 11 t (ix2 0 k)) = gn13 V0 := by
    funext k
    simp only [gn13, h13]
    have hi : ((cfg0.win 11).blk t).view.emb (ix2 0 k) = ix2 0 k := by blk_ext [idx t]
    show V m c main_v0 (((cfg0.win 11).blk t).view.emb (ix2 0 k)) = _
    rw [hi]
    entry_read
    pointwise
  have e13 : (fun k => iblk m c 12 t (ix2 0 k)) = gn14 V0 := by
    funext k
    simp only [gn14, h14]
    have hi : ((cfg0.win 12).blk t).view.emb (ix2 0 k) = ix2 0 k := by blk_ext [idx t]
    show V m c main_v1 (((cfg0.win 12).blk t).view.emb (ix2 0 k)) = _
    rw [hi]
    entry_read
    pointwise
  have e14 : (fun k => iblk m c 13 t (ix2 0 k)) = gn15 V0 := by
    funext k
    simp only [gn15, h15]
    have hi : ((cfg0.win 13).blk t).view.emb (ix2 0 k) = ix2 0 k := by blk_ext [idx t]
    show V m c main_v2 (((cfg0.win 13).blk t).view.emb (ix2 0 k)) = _
    rw [hi]
    entry_read
    pointwise
  have e15 : (fun k l => iblk m c 14 t (ix2 k l)) = wt11 V0 := by
    funext k l
    simp only [wt11, h11]
    blk_ext [iblk, V, idx t]
  have e16 : (fun k l => iblk m c 15 t (ix2 k l)) = wt12 V0 := by
    funext k l
    simp only [wt12, h12]
    blk_ext [iblk, V, idx t]
  refine (out_at _ _ _ _ _ _ _ _ _ _ _ _ _ _ _ _ r d).trans (Eq.trans ?_ (OUT_at V0 ⟨t.val / 16, hb⟩ ⟨t.val % 16 * 512 + r, hs⟩ _ d).symm)
  exact congr (congr (congr (congr (congr (congr (congr (congr (congr (congr (congr (congr (congr (congr (congr (congr (congr (congrArg row e0) e1) e2) e3) e4) e5) e6) e7) e8) e9) e10) e11) e12) e13) e14) e15) e16) (rfl : d = d)

theorem final (c : Dev nD) (V0 : Valuation Cert.Reference2Ideal.τ Cert.Reference2Ideal.sig (Elt Ideal)) (hag : Agree m c V0) :
    (dats m 0 c).arrAt 16 (cfgs 0).N = OUT V0 := by
  refine (dats m 0 c).arrAt_eq_of_covers 16 _ (by decide +kernel) fun t _ y => ?_
  blk_simp
  rw [after0_16]
  have ht : t.val < 64 := (idx t).2.2.2.2.2.2.2.2.2.2.2.2.2.2.2.2.2
  have hy : (y 0 : ℕ) < 512 := (y 0).isLt
  have hy1 : (y 1 : ℕ) < 1024 := (y 1).isLt
  refine Eq.trans ?_ ((point m c V0 hag t ⟨(y 0 : ℕ), hy⟩ ⟨(y 1 : ℕ), hy1⟩ (by omega) (by show t.val % 16 * 512 + (y 0 : ℕ) < 8192; omega)).trans ?_)
  · exact congrArg _ (eq_ix2 y)
  · refine congrArg (OUT V0) ?_
    blk_ext [idx t]

end Cert.Ffn.Val

end
-- ==== Proof.FfnClaim.lean ====
/- The second call's value claim: the feed-forward kernel and its reference end with the same array. -/
module

public import proofs.«01_k».proof.Defs
public import proofs.«01_k».proof.Proof.Gen.Reference2Ideal.Run
public import proofs.«01_k».proof.Proof.FfnValue
public import Idealize.ShloMosaic.Lib.Claim

@[expose] public section

set_option maxRecDepth 16384

noncomputable section

namespace Cert.Ffn

open Idealize.ShloMosaic Idealize.SL.Sem

set_option maxHeartbeats 1600000 in
/-- Over the reals the feed-forward kernel computes the reference's array. -/
theorem algebraic : Cert.algebraic_Kernel2Ideal_Reference2Ideal := by
  intro m g m' g' hpre hagree
  refine ⟨fun c => (Cert.Kernel2Ideal.Gen.dats m 0 c).arrAt 16 (Cert.Kernel2Ideal.cfgs 0).N, ?_, ?_⟩
  · run_from Cert.Kernel2Ideal.Gen.run_main m g
    exact hc.1 16
  · refine (θ_run _ _ _).mono (fun r h c => ?_) (Cert.Reference2Ideal.Value.run m' g')
    obtain ⟨a0, a1, a2, a3, a4, a5, a6, a7, a8, a9, a10, a11, a12, a13, a14, a15⟩ := hagree c
    exact ⟨(h c).1.trans (Cert.Ffn.Val.final m c (StableHlo.launchContents m' c) (by
      refine ⟨?_, ?_, ?_, ?_, ?_, ?_, ?_, ?_, ?_, ?_, ?_, ?_, ?_, ?_, ?_, ?_⟩
      exacts [a0, a1, a2, a3, a4, a5, a6, a7, a8, a9, a10, a11, a12, a13, a14, a15])).symm, (h c).2⟩

end Cert.Ffn

end
-- ==== Proof.Recur.lean ====
/- The gated recurrence over the reals, and one chunk of it in extended reals for any chunk length. -/
module

public import Idealize.ShloMosaic.Lib.Pointwise

@[expose] public section

noncomputable section

namespace Cert.Rec

open Idealize.ShloMosaic

section real
variable (i f : ℕ → ℝ)

/-- The running maximum of the log weights before position `n`. -/
def M : ℕ → ℝ
  | 0 => 0
  | n + 1 => max (M n + f n) (i n)

/-- The state before position `n`: the sum of what came in, each term weighted by its gates relative to `M n`. -/
def St (u : ℕ → ℝ) : ℕ → ℝ
  | 0 => 0
  | n + 1 => Real.exp (M i f n + f n - M i f (n + 1)) * St u n + Real.exp (i n - M i f (n + 1)) * u n

/-- The forget gates of positions `p … p + r`, added. -/
def cum (p r : ℕ) : ℝ := ∑ x ∈ Finset.range (r + 1), f (p + x)

theorem cum_succ (p r : ℕ) : cum f p (r + 1) = cum f p r + f (p + (r + 1)) := Finset.sum_range_succ _ _

theorem M_succ (n : ℕ) : M i f (n + 1) = max (M i f n + f n) (i n) := rfl

theorem St_succ (u : ℕ → ℝ) (n : ℕ) :
    St i f u (n + 1) = Real.exp (M i f n + f n - M i f (n + 1)) * St i f u n + Real.exp (i n - M i f (n + 1)) * u n := rfl

theorem M_base (p r : ℕ) : cum f p r + M i f p ≤ M i f (p + r + 1) := by
  induction r with
  | zero => simp [cum, M_succ, add_comm]
  | succ r ih =>
    rw [cum_succ, M_succ, show p + (r + 1) = p + r + 1 from rfl]
    exact le_max_of_le_left (by linarith)

theorem M_term (p r s : ℕ) (h : s ≤ r) : cum f p r - cum f p s + i (p + s) ≤ M i f (p + r + 1) := by
  induction r with
  | zero => obtain rfl : s = 0 := by omega
            simp [M_succ]
  | succ r ih =>
    rcases Nat.lt_or_ge s (r + 1) with hs | hs
    · rw [cum_succ, M_succ, show p + (r + 1) = p + r + 1 from rfl]
      exact le_max_of_le_left (by linarith [ih (by omega)])
    · obtain rfl : s = r + 1 := by omega
      rw [M_succ]
      exact le_max_of_le_right (by linarith)

theorem M_attained (p r : ℕ) : M i f (p + r + 1) = cum f p r + M i f p ∨
    ∃ s, s ≤ r ∧ M i f (p + r + 1) = cum f p r - cum f p s + i (p + s) := by
  induction r with
  | zero =>
    rcases max_choice (M i f p + f p) (i p) with h | h
    · left; simp only [Nat.add_zero, M_succ, h, cum]; simp [add_comm]
    · right; exact ⟨0, le_rfl, by simp only [Nat.add_zero, M_succ, h]; simp⟩
  | succ r ih =>
    rcases max_choice (M i f (p + r + 1) + f (p + r + 1)) (i (p + r + 1)) with h | h
    · rw [show p + (r + 1) = p + r + 1 from rfl, M_succ, h]
      rcases ih with e | ⟨s, hs, e⟩
      · left; rw [e, cum_succ]; simp only [← add_assoc]; ring
      · right; refine ⟨s, by omega, ?_⟩
        rw [e, cum_succ]; simp only [← add_assoc]; ring
    · right; refine ⟨r + 1, le_rfl, ?_⟩
      rw [show p + (r + 1) = p + r + 1 from rfl, M_succ, h]; ring

theorem St_chunk (u : ℕ → ℝ) (p r : ℕ) :
    St i f u (p + r + 1) = Real.exp (cum f p r + M i f p - M i f (p + r + 1)) * St i f u p
      + ∑ s ∈ Finset.range (r + 1), Real.exp (cum f p r - cum f p s + i (p + s) - M i f (p + r + 1)) * u (p + s) := by
  induction r with
  | zero => simp [St_succ, cum, add_comm]
  | succ r ih =>
    rw [show p + (r + 1) = p + r + 1 from rfl, St_succ, ih, Finset.sum_range_succ (n := r + 1), mul_add, ← mul_assoc,
      ← Real.exp_add, Finset.mul_sum, ← add_assoc]
    refine congrArg₂ (· + ·) (congrArg₂ (· + ·) ?_ (Finset.sum_congr rfl fun s _ => ?_)) ?_
    · rw [cum_succ]; refine congrArg (fun x => Real.exp x * _) ?_
      simp only [← add_assoc]; ring
    · rw [← mul_assoc, ← Real.exp_add, cum_succ]; refine congrArg (fun x => Real.exp x * _) ?_
      simp only [← add_assoc]; ring
    · refine congrArg₂ (fun x y => Real.exp x * u y) ?_ rfl
      simp only [← add_assoc]; ring
end real

section chunk
variable {T K : ℕ} (gb gi : Fin T → EReal) (m0 : EReal)

/-- The log weight row `r` gives position `s` of its own chunk. -/
def lw (r s : Fin T) : EReal := if s ≤ r then gb r - gb s + gi s else ⊥

/-- Row `r`'s stabilizer. -/
def mt (r : Fin T) : EReal := max (gb r + m0) (Finset.univ.fold max ⊥ (lw gb gi r))

/-- The weight of position `s` in row `r`. -/
def wt (q : Fin K → EReal) (k : Fin T → Fin K → EReal) (r s : Fin T) : EReal :=
  (∑ j, q j * k s j) * Ideal.exp (lw gb gi r s - mt gb gi m0 r)

/-- One element of a row's numerator. -/
def num (q : Fin K → EReal) (k : Fin T → Fin K → EReal) (v : Fin T → EReal) (c : Fin K → EReal) (r : Fin T) : EReal :=
  ∑ s, wt gb gi m0 q k r s * v s + Ideal.exp (gb r + m0 - mt gb gi m0 r) * ∑ j, q j * c j

/-- A row's denominator. -/
def den (q : Fin K → EReal) (k : Fin T → Fin K → EReal) (c : Fin K → EReal) (r : Fin T) : EReal :=
  ∑ s, wt gb gi m0 q k r s + Ideal.exp (gb r + m0 - mt gb gi m0 r) * ∑ j, q j * c j

/-- The stabilizer after the chunk, `e` its last row. -/
def ml (e : Fin T) : EReal := max (gb e + m0) (Finset.univ.fold max ⊥ fun s => gb e - gb s + gi s)

/-- One element of the state after the chunk. -/
def st (e : Fin T) (k v : Fin T → EReal) (c : EReal) : EReal :=
  Ideal.exp (gb e + m0 - ml gb gi m0 e) * c + ∑ s, k s * (Ideal.exp (gb e - gb s + gi s - ml gb gi m0 e) * v s)

variable {gb gi m0} {i f : ℕ → ℝ} {p : ℕ}
variable (hb : ∀ s : Fin T, gb s = ((cum f p s : ℝ) : EReal)) (hi : ∀ s : Fin T, gi s = ((i (p + s) : ℝ) : EReal))
  (hm : m0 = ((M i f p : ℝ) : EReal))
include hb hi

theorem lw_coe (r s : Fin T) (h : s ≤ r) : lw gb gi r s = ((cum f p r - cum f p s + i (p + s) : ℝ) : EReal) := by
  rw [lw, if_pos h, hb, hb, hi]; rfl

include hm

theorem mt_coe (r : Fin T) : mt gb gi m0 r = ((M i f (p + r + 1) : ℝ) : EReal) := by
  rw [mt, hm, hb]
  refine le_antisymm (max_le ?_ ?_) ?_
  · exact_mod_cast M_base i f p r
  · rw [Finset.fold_max_le]
    refine ⟨bot_le, fun s _ => ?_⟩
    by_cases h : s ≤ r
    · rw [lw_coe hb hi r s h]; exact_mod_cast M_term i f p r s h
    · rw [lw, if_neg h]; exact bot_le
  · rcases M_attained i f p r with e | ⟨s, hs, e⟩
    · rw [e]; exact le_max_of_le_left (le_of_eq (EReal.coe_add _ _))
    · refine le_max_of_le_right ?_
      rw [Finset.le_fold_max]
      have hsT : s < T := by omega
      refine Or.inr ⟨⟨s, hsT⟩, Finset.mem_univ _, ?_⟩
      rw [lw_coe hb hi r ⟨s, hsT⟩ hs, e]

theorem ml_coe (e : Fin T) (he : e.val + 1 = T) : ml gb gi m0 e = ((M i f (p + T) : ℝ) : EReal) := by
  have h := mt_coe hb hi hm e
  rw [show p + T = p + e + 1 by omega, ← h, mt, ml]
  refine congrArg (max _) (Finset.fold_congr fun s _ => ?_)
  rw [lw, if_pos (show s ≤ e from Fin.le_def.mpr (by omega))]

theorem wexp_coe (r s : Fin T) : Ideal.exp (lw gb gi r s - mt gb gi m0 r)
    = ((if s.val ≤ r.val then Real.exp (cum f p r - cum f p s + i (p + s) - M i f (p + r + 1)) else 0 : ℝ) : EReal) := by
  rw [mt_coe hb hi hm]
  by_cases h : s ≤ r
  · rw [lw_coe hb hi r s h, if_pos (show s.val ≤ r.val from h)]; rfl
  · rw [lw, if_neg h, if_neg (show ¬ s.val ≤ r.val from h), EReal.bot_sub]; rfl

theorem aexp_coe (r : Fin T) : Ideal.exp (gb r + m0 - mt gb gi m0 r)
    = ((Real.exp (cum f p r + M i f p - M i f (p + r + 1)) : ℝ) : EReal) := by
  rw [mt_coe hb hi hm, hb, hm]; rfl

omit hb hi hm in
theorem sum_mask (r : Fin T) (F : ℕ → ℝ) :
    ∑ s : Fin T, (if s.val ≤ r.val then F s else 0) = ∑ s ∈ Finset.range (r + 1), F s := by
  rw [Fin.sum_univ_eq_sum_range (fun s => if s ≤ r.val then F s else 0) T, ← Finset.sum_filter]
  refine Finset.sum_congr (Finset.ext fun x => ?_) fun _ _ => rfl
  simp only [Finset.mem_filter, Finset.mem_range]
  have := r.isLt
  omega

omit hb hi hm in
theorem coe_sum' {ι : Type} (s : Finset ι) (F : ι → ℝ) : ∑ x ∈ s, ((F x : ℝ) : EReal) = ((∑ x ∈ s, F x : ℝ) : EReal) := by
  classical
  induction s using Finset.induction_on with
  | empty => simp
  | insert a s ha ih => rw [Finset.sum_insert ha, Finset.sum_insert ha, ih, EReal.coe_add]

theorem num_coe (r : Fin T) (q : Fin K → EReal) (k : Fin T → Fin K → EReal) (v : Fin T → EReal) (c : Fin K → EReal)
    (qr : Fin K → ℝ) (kr : ℕ → Fin K → ℝ) (vr : ℕ → ℝ) (hq : ∀ j, q j = ((qr j : ℝ) : EReal))
    (hk : ∀ s j, k s j = ((kr (p + s) j : ℝ) : EReal)) (hv : ∀ s, v s = ((vr (p + s) : ℝ) : EReal))
    (hc : ∀ j, c j = ((St i f (fun n => kr n j * vr n) p : ℝ) : EReal)) :
    num gb gi m0 q k v c r = ((∑ j, qr j * St i f (fun n => kr n j * vr n) (p + r + 1) : ℝ) : EReal) := by
  simp only [num, wt, wexp_coe hb hi hm, aexp_coe hb hi hm, hq, hk, hv, hc, ← EReal.coe_mul, coe_sum', ← EReal.coe_add]
  refine congrArg _ ?_
  simp only [St_chunk i f _ p r, mul_ite, mul_zero, ite_mul, zero_mul]
  rw [sum_mask r fun s => (∑ j, qr j * kr (p + s) j) * Real.exp (cum f p r - cum f p s + i (p + s) - M i f (p + r + 1)) * vr (p + s)]
  simp only [mul_add, Finset.sum_add_distrib, Finset.mul_sum, Finset.sum_mul]
  rw [Finset.sum_comm, add_comm]
  refine congrArg₂ (· + ·) (Finset.sum_congr rfl fun j _ => by ring)
    (Finset.sum_congr rfl fun j _ => Finset.sum_congr rfl fun s _ => by ring)

theorem den_coe (r : Fin T) (q : Fin K → EReal) (k : Fin T → Fin K → EReal) (c : Fin K → EReal)
    (qr : Fin K → ℝ) (kr : ℕ → Fin K → ℝ) (hq : ∀ j, q j = ((qr j : ℝ) : EReal))
    (hk : ∀ s j, k s j = ((kr (p + s) j : ℝ) : EReal))
    (hc : ∀ j, c j = ((St i f (fun n => kr n j) p : ℝ) : EReal)) :
    den gb gi m0 q k c r = ((∑ j, qr j * St i f (fun n => kr n j) (p + r + 1) : ℝ) : EReal) := by
  have h := num_coe hb hi hm r q k (fun _ => 1) c qr kr (fun _ => 1) hq hk (fun _ => rfl) (by simpa using hc)
  simpa only [num, den, mul_one] using h

theorem st_coe (e : Fin T) (he : e.val + 1 = T) (k v : Fin T → EReal) (c : EReal) (kr vr : ℕ → ℝ)
    (hk : ∀ s, k s = ((kr (p + s) : ℝ) : EReal)) (hv : ∀ s, v s = ((vr (p + s) : ℝ) : EReal))
    (hc : c = ((St i f (fun n => kr n * vr n) p : ℝ) : EReal)) :
    st gb gi m0 e k v c = ((St i f (fun n => kr n * vr n) (p + T) : ℝ) : EReal) := by
  rw [st, ml_coe hb hi hm e he]
  simp only [hb, hi, hm, hk, hv, hc, ← EReal.coe_mul, ← EReal.coe_add, ← EReal.coe_sub,
    Ideal.exp_coe, coe_sum']
  refine congrArg _ ?_
  rw [show p + T = p + e + 1 by omega, St_chunk i f _ p e, ← sum_mask e fun s => Real.exp (cum f p e - cum f p s + i (p + s) - M i f (p + e + 1)) * (kr (p + s) * vr (p + s))]
  refine congrArg _ (Finset.sum_congr rfl fun s _ => ?_)
  rw [if_pos (show s.val ≤ e.val by omega)]
  ring
end chunk

end Cert.Rec

end
-- ==== Proof.MlHead.lean ====
module

public import proofs.«01_k».proof.Proof.Gen.KernelIdeal.Frame
public import proofs.«01_k».proof.Proof.Recur
public import Idealize.ShloMosaic.Lib.Pointwise
public import Idealize.ShloMosaic.Lib.Pipeline.ValueKit

@[expose] public section

set_option maxRecDepth 16384

noncomputable section

namespace Cert.Ml

open Idealize.ShloMosaic Idealize.ShloMosaic.TcCoe Idealize.SL.Sem
open Cert.KernelIdeal Cert.KernelIdeal.Gen

/-- The row `b` standing up as a column, the way the kernel turns it: a masked sum along the lanes. -/
def colOf (b : FVec Ideal S1x256 .f32) : FVec Ideal S256x1 .f32 :=
  have z : Ideal .f32 := Scalar.ofBits .f32 0x00000000#32
  shapeCast S256x1
    (multiReduction .add [1] S256
      (select k0_pay12
        (broadcastTo S256x256 (shapeCast S1x256 b shapeCasts_S1x256_S1x256) broadcasts_S1x256_S256x256)
        (broadcast S256x256 z))
      0x00000000#32 reduces_S256x256_S256 (.inl rfl) rfl)
    shapeCasts_S256_S256x1

/-- One head's division of numerator by denominator, before its norm. -/
def headH (ir br : FVec Ideal S1x256 .f32) (mp : Vec Ideal S1x1 .f32) (q k : Vec Ideal S256x64 .bf16)
    (v : Vec Ideal S256x128 .bf16) (ca : Vec Ideal S1x64x256 .f32) : FVec Ideal S256x128 .f32 :=
  k0_pay18 k0_pay11 ir br (colOf br) mp (broadcastTo S256x256 (colOf br) broadcasts_S256x1_S256x256) q k v ca

/-- One head's rows of the output. -/
def headY (ir br : FVec Ideal S1x256 .f32) (mp : Vec Ideal S1x1 .f32) (q k : Vec Ideal S256x64 .bf16)
    (v : Vec Ideal S256x128 .bf16) (ca : Vec Ideal S1x64x256 .f32) (nw : Vec Ideal S1x128 .f32)
    (mo : Vec Ideal S256x128 .f32) : FVec Ideal S256x128 .bf16 :=
  k0_pay19 (headH ir br mp q k v ca) nw mo

/-- One head's state after the chunk. -/
def headC (ir br : FVec Ideal S1x256 .f32) (mp : Vec Ideal S1x1 .f32)
    (v : Vec Ideal S256x128 .bf16) (ca : Vec Ideal S1x64x256 .f32) (kt : Vec Ideal S64x256 .bf16) :
    FVec Ideal S1x64x256 .f32 :=
  k0_pay28 (k0_pay17 ca) (k0_pay24 ir br mp) (k0_pay25 k0_pay12 ir br mp v)
    (k0_pay26 (iota .tc S256x128 32 [1] iota_S256x128_d1_w32))
    (Scalar.ofBits .f32 0x00000000#32) (k0_pay27 k0_pay12 ir br mp) kt

/-- One head's running maximum after the chunk, along its row of lanes. -/
def headM (ir br : FVec Ideal S1x256 .f32) (mp : Vec Ideal S1x1 .f32) : FVec Ideal S1x128 .f32 :=
  k0_pay29 (k0_pay22 ir br mp)

variable (ir br : FVec Ideal S1x256 .f32) (mp : Vec Ideal S1x1 .f32) (q k : Vec Ideal S256x64 .bf16)
    (v : Vec Ideal S256x128 .bf16) (ca : Vec Ideal S1x64x256 .f32) (kt : Vec Ideal S64x256 .bf16)
    (nw : Vec Ideal S1x128 .f32) (mo : Vec Ideal S256x128 .f32)

theorem bot_bits : Ideal.ofBits FTy.f32 0xFF800000#32 = ⊥ := by
  simp [Ideal.ofBits, Ideal.ieee]

theorem mask_bot : (Named.named κ "mask" 0xF149F2CA#32 : Ideal .f32) = (⊥ : EReal) :=
  IdealRules.named_const.ideal_named_scalar _ _ _ _ rfl

theorem select_le (x r : Fin 256) (a b : EReal) :
    Scalar.select (IntOp.cmpi CmpIPredicate.sle (BitVec.ofNat 32 x.val) (BitVec.ofNat 32 r.val)) a b = if x ≤ r then a else b := by
  have h : (BitVec.ofNat 32 x.val).sle (BitVec.ofNat 32 r.val) = decide (x ≤ r) := by
    have ht : ∀ n : ℕ, n < 256 → (BitVec.ofNat 32 n).toInt = (n : ℤ) := fun n hn => by
      rw [BitVec.toInt_eq_toNat_of_lt (by rw [BitVec.toNat_ofNat]; omega), BitVec.toNat_ofNat]
      omega
    rw [BitVec.sle_eq_decide, ht _ x.isLt, ht _ r.isLt, decide_eq_decide, Nat.cast_le, Fin.le_def]
  simp only [Scalar.select, IntOp.cmpi, h]
  by_cases hx : x ≤ r <;> simp [hx]

theorem select_eq (n k : ℕ) (hn : n < 256) (hk : k < 256) (a b : EReal) :
    Scalar.select (IntOp.cmpi CmpIPredicate.eq (BitVec.ofNat 32 n) (BitVec.ofNat 32 k)) a b = if n = k then a else b := by
  have h : (BitVec.ofNat 32 n == BitVec.ofNat 32 k) = decide (n = k) := by
    rw [beq_eq_decide, decide_eq_decide, ← BitVec.toNat_inj, BitVec.toNat_ofNat, BitVec.toNat_ofNat]
    omega
  simp only [Scalar.select, IntOp.cmpi, h]
  by_cases hx : n = k <;> simp [hx]

/-- A masked sum along the lanes picks out the one term on the diagonal. -/
theorem sum_pick (F : Fin 256 → EReal) (r : Fin 256) :
    ∑ x : Fin 256, Scalar.select (IntOp.cmpi CmpIPredicate.eq (BitVec.ofNat 32 x.val) (BitVec.ofNat 32 r.val)) (F x) 0 = F r := by
  simp only [select_eq _ _ (Fin.isLt _) (Fin.isLt _), Fin.val_inj]
  simp

theorem headM_at (j : Fin 128) :
    headM ir br mp (ix2 0 j)
      = Cert.Rec.ml (fun s : Fin 256 => br (ix2 0 s)) (fun s => ir (ix2 0 s)) (mp (ix2 0 0)) 255 := by
  simp only [headM, Cert.Rec.ml, ← bot_bits]
  pointwise [k0_pay29, k0_pay22, k0_pay21, k0_pay20]

theorem colOf_at (r : Fin 256) (j : Fin 1) : colOf br (ix2 r j) = br (ix2 0 r) := by
  simp only [colOf]
  pointwise [k0_pay12]
  exact sum_pick (fun x => br (ix2 0 x)) r

/-- The values a chunk adds to the state: `v`, then a column of ones for the normalizer, then zeros. -/
def vAug (v : Fin 256 → Fin 128 → EReal) (s : Fin 256) (d : Fin 256) : EReal :=
  if h : d.val < 128 then v s ⟨d.val, h⟩ else if d.val = 128 then 1 else 0

theorem headC_at (x : Fin 64) (d : Fin 256) :
    headC ir br mp v ca kt (ix3 0 x d)
      = Cert.Rec.st (fun s : Fin 256 => br (ix2 0 s)) (fun s => ir (ix2 0 s)) (mp (ix2 0 0)) 255
          (fun s => kt (ix2 x s)) (fun s => vAug (fun s d => v (ix2 s d)) s d) (ca (ix3 0 x d)) := by
  simp only [headC]
  pointwise [k0_pay28, k0_pay17, k0_pay24, k0_pay25, k0_pay26, k0_pay27, k0_pay23, k0_pay22, k0_pay21, k0_pay20, k0_pay12]
  simp only [Cert.Rec.st, Cert.Rec.ml, vAug, bot_bits]
  congr 1
  refine Finset.sum_congr rfl fun s _ => ?_
  congr 1
  rw [sum_pick (fun y => Ideal.exp (br (ix2 0 255) - br (ix2 0 y) + ir (ix2 0 y) -
    max (br (ix2 0 255) + mp (ix2 0 0)) (Finset.fold max ⊥ (fun y => br (ix2 0 255) - br (ix2 0 y) + ir (ix2 0 y)) Finset.univ))) s]
  by_cases h : d.val < 128
  · rw [dif_pos h, dif_pos h]
  · rw [dif_neg h, dif_neg h, show (0#32) = BitVec.ofNat 32 0 from rfl, select_eq _ _ (by omega) (by omega)]
    by_cases h' : d.val = 128
    · rw [if_pos (by omega), if_pos h', mul_one]
    · rw [if_neg (by omega), if_neg h', mul_zero]

theorem headH_at (r : Fin 256) (d : Fin 128) :
    headH ir br mp q k v ca (ix2 r d)
      = Ideal.div
          (Cert.Rec.num (fun s : Fin 256 => br (ix2 0 s)) (fun s => ir (ix2 0 s)) (mp (ix2 0 0)) (fun j : Fin 64 => q (ix2 r j))
            (fun s j => k (ix2 s j)) (fun s => v (ix2 s d)) (fun j => ca (ix3 0 j ⟨d.val, by omega⟩)) r)
          (max (FloatOps.absf (F := Ideal) (φ := .f32)
            (Cert.Rec.den (fun s : Fin 256 => br (ix2 0 s)) (fun s => ir (ix2 0 s)) (mp (ix2 0 0)) (fun j : Fin 64 => q (ix2 r j))
            (fun s j => k (ix2 s j)) (fun j => ca (ix3 0 j 128)) r))
            (Ideal.exp (0 - Cert.Rec.mt (fun s : Fin 256 => br (ix2 0 s)) (fun s => ir (ix2 0 s)) (mp (ix2 0 0)) r))) := by
  simp only [headH]
  pointwise [k0_pay18, k0_pay17, k0_pay11]
  simp only [select_le, colOf_at, bot_bits, mask_bot, Cert.Rec.num, Cert.Rec.den, Cert.Rec.wt, Cert.Rec.mt]
  rfl

/-- A head's row after its norm and its gate. -/
def yOf (h : Fin 128 → EReal) (nw mo : EReal) (d : Fin 128) : EReal :=
  Ideal.logistic mo *
    (h d * Ideal.rsqrt (Ideal.div (∑ x, h x * h x) (Ideal.ofBits FTy.f32 0x43000000#32) + Ideal.ofBits FTy.f32 0x358637BD#32) * nw)

theorem headY_at (r : Fin 256) (d : Fin 128) :
    headY ir br mp q k v ca nw mo (ix2 r d)
      = yOf (fun d => headH ir br mp q k v ca (ix2 r d)) (nw (ix2 0 d)) (mo (ix2 r d)) d := by
  simp only [headY, yOf]
  generalize headH ir br mp q k v ca = H
  pointwise [k0_pay19]

section bridge
variable (gc gb : FVec Ideal S8x256 .f32)

theorem headY1_eq : k0_pay38
            (k0_pay37 (k0_pay33 gc gb k0_pay11 k0_pay12) (k0_pay34 gb k0_pay12 mp) (k0_pay35 gc gb k0_pay11 k0_pay12 mp) q k v ca nw) mo
    = headY (k0_pay30 gc) (k0_pay31 gb) mp q k v ca nw mo := rfl

theorem headY2_eq : k0_pay55 (k0_pay50 gc gb k0_pay11 k0_pay12 mp) q v (k0_pay51 gc gb k0_pay11 k0_pay12 mp q k)
      (k0_pay52 gc gb k0_pay11 k0_pay12 mp) (k0_pay54 ca) nw mo
    = headY (k0_pay45 gc) (k0_pay46 gb) mp q k v ca nw mo := rfl

theorem headY3_eq : k0_pay77 (k0_pay69 k0_pay11 (k0_pay63 gc) (k0_pay64 gb) (k0_pay65 gb k0_pay12) mp)
      (k0_pay74 k0_pay11 (k0_pay63 gc) (k0_pay64 gb) (k0_pay65 gb k0_pay12) mp q k v ca)
      (k0_pay75 k0_pay11 (k0_pay63 gc) (k0_pay64 gb) (k0_pay65 gb k0_pay12) mp q k ca) k0_pay76 nw mo
    = headY (k0_pay63 gc) (k0_pay64 gb) mp q k v ca nw mo := rfl

theorem headC1_eq : k0_pay43 (k0_pay42 k0_pay12 (iota .tc S256x128 32 [1] iota_S256x128_d1_w32) ir br mp v (k0_pay36 ca) kt)
    = headC ir br mp v ca kt := rfl

theorem headC2_eq : k0_pay61 k0_pay12 (iota .tc S256x128 32 [1] iota_S256x128_d1_w32) mp v (k0_pay53 ca) (k0_pay56 br) (k0_pay57 ir br)
      (k0_pay58 br mp) (k0_pay59 ir br) kt
    = headC ir br mp v ca kt := rfl

theorem headC3_eq : k0_pay1 (iota .tc S256x128 32 [1] iota_S256x128_d1_w32) (k0_pay72 ca) (k0_pay81 k0_pay12 ir br mp) (k0_pay82 ir br mp)
      (k0_pay83 k0_pay12 ir br mp v) kt
    = headC ir br mp v ca kt := rfl

theorem headM1_eq : k0_pay44 (k0_pay41 ir br mp) = headM ir br mp := rfl
theorem headM2_eq : k0_pay62 (k0_pay58 br mp) (k0_pay59 ir br) = headM ir br mp := rfl
theorem headM3_eq : k0_pay2 (k0_pay80 ir br mp) = headM ir br mp := rfl
end bridge

end Cert.Ml

end
-- ==== Proof.MlGate.lean ====
module

public import proofs.«01_k».proof.Proof.MlHead
public import Idealize.ShloMosaic.Lib.IdealHost

@[expose] public section

set_option maxRecDepth 16384

noncomputable section

namespace Cert.Ml

open Idealize.ShloMosaic Idealize.ShloMosaic.TcCoe Idealize.SL.Sem
open Cert.KernelIdeal Cert.KernelIdeal.Gen

section gates

theorem fifteen : Ideal.ofBits FTy.f32 0x41700000#32 = ((15 : ℝ) : EReal) := by
  simp [Ideal.ofBits, Ideal.ieee]
  rw [← EReal.coe_mul]; norm_num

/-- A gate after its soft cap: real whatever the gate was. -/
def capE (x : EReal) : EReal := Ideal.ofBits FTy.f32 0x41700000#32 * Ideal.tanh (Ideal.div x (Ideal.ofBits FTy.f32 0x41700000#32))

def capR (x : EReal) : ℝ := (capE x).toReal

theorem capE_coe (x : EReal) : capE x = ((capR x : ℝ) : EReal) := by
  have h : ∃ r : ℝ, capE x = (r : EReal) := by
    unfold capE
    rw [fifteen]
    generalize Ideal.div x _ = y
    induction y with
    | bot => exact ⟨15 * (-1), by simp [Ideal.tanh_bot]⟩
    | top => exact ⟨15, by simp [Ideal.tanh_top]⟩
    | coe r => exact ⟨15 * Real.tanh r, by simp [Ideal.tanh_coe]⟩
  obtain ⟨r, hr⟩ := h
  rw [capR, hr, EReal.toReal_coe]

/-- The logarithm of the logistic, on the reals. -/
def lsR (g : ℝ) : ℝ := min g 0 - Real.log (1 + Real.exp (-|g|))

theorem log1p_exp (a : ℝ) : Ideal.log1p (Ideal.exp ((a : ℝ) : EReal)) = ((Real.log (1 + Real.exp a) : ℝ) : EReal) := by
  have h : (1 : EReal) + ((Real.exp a : ℝ) : EReal) = ((1 + Real.exp a : ℝ) : EReal) := by push_cast; rfl
  have hp : ¬ (1 + Real.exp a ≤ 0) := not_le.mpr (by positivity)
  rw [Ideal.log1p, show Ideal.exp ((a : ℝ) : EReal) = ((Real.exp a : ℝ) : EReal) from rfl, h]
  show (if 1 + Real.exp a ≤ 0 then (⊥ : EReal) else _) = _
  rw [if_neg hp]

theorem coe_absf (g : ℝ) : FloatOps.absf (F := Ideal) (φ := .f32) ((g : ℝ) : EReal) = ((|g| : ℝ) : EReal) := by
  show max ((g : ℝ) : EReal) (-((g : ℝ) : EReal)) = _
  rw [← EReal.coe_neg, ← EReal.coe_strictMono.monotone.map_max]; rfl

theorem ls_kernel (g : ℝ) :
    min ((g : ℝ) : EReal) 0 - Ideal.log1p (Ideal.exp (0 - FloatOps.absf (F := Ideal) (φ := .f32) ((g : ℝ) : EReal)))
      = ((lsR g : ℝ) : EReal) := by
  rw [coe_absf, ← EReal.coe_zero, ← EReal.coe_sub, zero_sub, log1p_exp, ← EReal.coe_strictMono.monotone.map_min, ← EReal.coe_sub]; rfl

end gates

section scan

/-- The sum of the last `n` terms up to `r`. -/
def win (f : ℕ → ℝ) (n r : ℕ) : ℝ := ∑ x ∈ Finset.range (min n (r + 1)), f (r - x)

theorem win_one (f : ℕ → ℝ) (r : ℕ) : win f 1 r = f r := by simp [win]

theorem win_double (f : ℕ → ℝ) (n r : ℕ) :
    win f n r + (if n ≤ r then win f n (r - n) else 0) = win f (n + n) r := by
  unfold win
  by_cases h : n ≤ r
  · rw [if_pos h, show min (n + n) (r + 1) = n + min n (r - n + 1) by omega, Finset.sum_range_add, show min n (r + 1) = n by omega]
    congr 1
    exact Finset.sum_congr rfl fun x _ => by rw [Nat.sub_sub]
  · rw [if_neg h, add_zero, show min (n + n) (r + 1) = min n (r + 1) by omega]

theorem win_all (f : ℕ → ℝ) (r : ℕ) (h : r < 256) (p : ℕ) : win (fun x => f (p + x)) 256 r = Cert.Rec.cum f p r := by
  unfold win Cert.Rec.cum
  rw [show min 256 (r + 1) = r + 1 by omega]
  exact Finset.sum_range_reflect (fun x => f (p + x)) (r + 1) |>.symm ▸ Finset.sum_congr rfl fun x hx => by
    congr 2

/-- The log forget gates before the scan. -/
def lsV (x : FVec Ideal S8x256 .f32) : FVec Ideal S8x256 .f32 :=
  have z : Ideal .f32 := Scalar.ofBits .f32 0x00000000#32
  subf (minimumf (k0_pay7 x) (broadcast S8x256 z)) (log1p (exp (subf (broadcast S8x256 z) (absf (k0_pay7 x)))))

/-- One step of the scan: every lane adds the one `k` before it. -/
def scanV (k : BitVec 32) (x : FVec Ideal S8x256 .f32) : FVec Ideal S8x256 .f32 :=
  have z : Ideal .f32 := Scalar.ofBits .f32 0x00000000#32
  addf x (select (cmpi .sge (iota .tc S8x256 32 [1] iota_S8x256_d1_w32) (broadcast S8x256 k))
    (dynamicRotate 1 k none x rotates_S8x256_d1) (broadcast S8x256 z))

/-- The scanned log forget gates, all eight steps. -/
def cumV (x : FVec Ideal S8x256 .f32) : FVec Ideal S8x256 .f32 :=
  scanV 128#32 (scanV 64#32 (scanV 32#32 (scanV 16#32 (scanV 8#32 (scanV 4#32 (scanV 2#32 (scanV 1#32 (lsV x))))))))

theorem cumV_eq (x : FVec Ideal S8x256 .f32) :
    k0_pay10 (iota .tc S8x256 32 [1] iota_S8x256_d1_w32) (k0_pay8 x) k0_pay9 8#32 = cumV x := rfl

theorem select_ge {α : Type} (n k : ℕ) (hn : n < 256) (hk : k < 256) (a b : α) :
    Scalar.select (IntOp.cmpi CmpIPredicate.sge (BitVec.ofNat 32 n) (BitVec.ofNat 32 k)) a b = if k ≤ n then a else b := by
  have h : (BitVec.ofNat 32 k).sle (BitVec.ofNat 32 n) = decide (k ≤ n) := by
    have ht : ∀ n : ℕ, n < 256 → (BitVec.ofNat 32 n).toInt = (n : ℤ) := fun n hn => by
      rw [BitVec.toInt_eq_toNat_of_lt (by rw [BitVec.toNat_ofNat]; omega), BitVec.toNat_ofNat]
      omega
    rw [BitVec.sle_eq_decide, ht _ hk, ht _ hn, decide_eq_decide, Nat.cast_le]
  simp only [Scalar.select, IntOp.cmpi, h]
  by_cases hx : k ≤ n <;> simp [hx]

theorem scanV_at (n : ℕ) (hn : n < 256) (x : FVec Ideal S8x256 .f32) (g : Fin 8) (r : Fin 256) :
    scanV (BitVec.ofNat 32 n) x (ix2 g r) = x (ix2 g r) + if h : n ≤ r.val then x (ix2 g ⟨r.val - n, by omega⟩) else 0 := by
  simp only [scanV]
  pointwise []
  rw [select_ge _ _ r.isLt hn]
  congr 1
  by_cases h : n ≤ r.val
  · rw [if_pos h, dif_pos h]
    congr 2
    refine Fin.ext ?_
    simp only [BitVec.toNat_ofNat]
    have := r.isLt
    omega
  · rw [if_neg h, dif_neg h]

theorem scanV_win (n : ℕ) (hn : n < 256) (x : FVec Ideal S8x256 .f32) (g : Fin 8) (f : ℕ → ℝ)
    (h : ∀ r : Fin 256, x (ix2 g r) = ((win f n r.val : ℝ) : EReal)) (r : Fin 256) :
    scanV (BitVec.ofNat 32 n) x (ix2 g r) = ((win f (n + n) r.val : ℝ) : EReal) := by
  rw [scanV_at n hn, ← win_double, EReal.coe_add, h]
  congr 1
  by_cases hr : n ≤ r.val
  · rw [dif_pos hr, if_pos hr, h]
  · rw [dif_neg hr, if_neg hr]; rfl

theorem gate_at (x : FVec Ideal S8x256 .f32) (g : Fin 8) (r : Fin 256) : (k0_pay7 (F := Ideal) x (ix2 g r) : EReal) = ((capR (x (ix2 g r)) : ℝ) : EReal) := by
  rw [← capE_coe, capE]
  pointwise [k0_pay7]

theorem lsV_at (x : FVec Ideal S8x256 .f32) (g : Fin 8) (r : Fin 256) :
    lsV x (ix2 g r) = ((lsR (capR (x (ix2 g r))) : ℝ) : EReal) := by
  rw [← ls_kernel, ← gate_at]
  simp only [lsV]
  generalize k0_pay7 (F := Ideal) x = y
  pointwise []

theorem cumV_at (x : FVec Ideal S8x256 .f32) (g : Fin 8) (f : ℕ → ℝ) (p : ℕ)
    (h : ∀ r : Fin 256, lsR (capR (x (ix2 g r))) = f (p + r.val)) (r : Fin 256) :
    cumV x (ix2 g r) = ((Cert.Rec.cum f p r.val : ℝ) : EReal) := by
  rw [← win_all f r.val r.isLt p]
  refine scanV_win 128 (by omega) _ g _ (fun r => ?_) r
  refine scanV_win 64 (by omega) _ g _ (fun r => ?_) r
  refine scanV_win 32 (by omega) _ g _ (fun r => ?_) r
  refine scanV_win 16 (by omega) _ g _ (fun r => ?_) r
  refine scanV_win 8 (by omega) _ g _ (fun r => ?_) r
  refine scanV_win 4 (by omega) _ g _ (fun r => ?_) r
  refine scanV_win 2 (by omega) _ g _ (fun r => ?_) r
  refine scanV_win 1 (by omega) _ g _ (fun r => ?_) r
  rw [lsV_at, h, win_one]

end scan

end Cert.Ml

end
-- ==== Proof.MlBlock.lean ====
module

public import proofs.«01_k».proof.Proof.MlGate
public import Idealize.ShloMosaic.Lib.Pipeline.ReadBack
public import Idealize.ShloMosaic.Lib.WritesUnit

@[expose] public section

set_option maxRecDepth 16384

noncomputable section

namespace Cert.Ml

open Idealize.ShloMosaic Idealize.ShloMosaic.TcCoe Idealize.SL.Sem
open Cert.KernelIdeal Cert.KernelIdeal.Gen

section spec
variable (x0 x1 x2 : Vec Ideal S256x256 .bf16) (x3 : Vec Ideal S256x512 .bf16) (x4 : Vec Ideal S256x512 .f32)
  (x5 : Vec Ideal S8x256 .f32) (x6 : Vec Ideal S1x512 .f32)
  (X : Fin 4 → Fin 64 → Fin 256 → EReal) (M : Fin 4 → EReal)

/-- A head's input gates over a chunk. -/
def rowI (h : Fin 4) (s : Fin 256) : EReal := k0_pay7 (F := Ideal) x5 (ix2 ⟨h.val, by omega⟩ s)

/-- A head's summed log forget gates over a chunk. -/
def rowB (h : Fin 4) (s : Fin 256) : EReal := cumV x5 (ix2 ⟨4 + h.val, by omega⟩ s)

/-- A head's values with the column of ones. -/
def rowV (h : Fin 4) : Fin 256 → Fin 256 → EReal := vAug fun s d => x3 (ix2 s ⟨128 * h.val + d.val, by omega⟩)

/-- The state after a chunk, every head. -/
def nextC (h : Fin 4) (x : Fin 64) (d : Fin 256) : EReal :=
  Cert.Rec.st (rowB x5 h) (rowI x5 h) (M h) 255 (fun s => x2 (ix2 ⟨64 * h.val + x.val, by omega⟩ s)) (fun s => rowV x3 h s d) (X h x d)

/-- The running maximum after a chunk, every head. -/
def nextM (h : Fin 4) : EReal := Cert.Rec.ml (rowB x5 h) (rowI x5 h) (M h) 255

/-- A head's quotient at a row of the chunk. -/
def rowH (h : Fin 4) (r : Fin 256) (d : Fin 128) : EReal :=
  Ideal.div
    (Cert.Rec.num (rowB x5 h) (rowI x5 h) (M h) (fun j : Fin 64 => x0 (ix2 r ⟨64 * h.val + j.val, by omega⟩))
      (fun s j => x1 (ix2 s ⟨64 * h.val + j.val, by omega⟩)) (fun s => x3 (ix2 s ⟨128 * h.val + d.val, by omega⟩))
      (fun j => X h j ⟨d.val, by omega⟩) r)
    (max (FloatOps.absf (F := Ideal) (φ := .f32)
      (Cert.Rec.den (rowB x5 h) (rowI x5 h) (M h) (fun j : Fin 64 => x0 (ix2 r ⟨64 * h.val + j.val, by omega⟩))
        (fun s j => x1 (ix2 s ⟨64 * h.val + j.val, by omega⟩)) (fun j => X h j 128) r))
      (Ideal.exp (0 - Cert.Rec.mt (rowB x5 h) (rowI x5 h) (M h) r)))

/-- A head's row of the output. -/
def rowY (h : Fin 4) (r : Fin 256) (d : Fin 128) : EReal :=
  yOf (fun d => rowH x0 x1 x3 x5 X M h r d) (x6 (ix2 0 ⟨128 * h.val + d.val, by omega⟩))
    (x4 (ix2 r ⟨128 * h.val + d.val, by omega⟩)) d
end spec

section rows
variable (gc gb : FVec Ideal S8x256 .f32) (s : Fin 256)
theorem pay13_at : k0_pay13 gc (ix2 0 s) = gc (ix2 0 s) := by pointwise [k0_pay13]
theorem pay30_at : k0_pay30 gc (ix2 0 s) = gc (ix2 1 s) := by pointwise [k0_pay30]
theorem pay45_at : k0_pay45 gc (ix2 0 s) = gc (ix2 2 s) := by pointwise [k0_pay45]
theorem pay63_at : k0_pay63 gc (ix2 0 s) = gc (ix2 3 s) := by pointwise [k0_pay63]
theorem pay31_at : k0_pay31 gb (ix2 0 s) = gb (ix2 5 s) := by pointwise [k0_pay31]
theorem pay46_at : k0_pay46 gb (ix2 0 s) = gb (ix2 6 s) := by pointwise [k0_pay46]
theorem pay64_at : k0_pay64 gb (ix2 0 s) = gb (ix2 7 s) := by pointwise [k0_pay64]

/-- Row 4 of the scanned gates. -/
def row4 : FVec Ideal S1x256 .f32 := extractStridedSlice S1x256 ![4, 0] gb slices_S8x256_o4_0_S1x256
theorem row4_at : row4 gb (ix2 0 s) = gb (ix2 4 s) := by
  simp only [row4]
  pointwise []
theorem pay14_eq (x : Vec Ideal S8x256 .f32) :
    k0_pay14 (iota .tc S8x256 32 [1] iota_S8x256_d1_w32) (k0_pay8 x) k0_pay9 8#32 = row4 (cumV x) := rfl
end rows

section piece
variable {x0 x1 x2 : Vec Ideal S256x256 .bf16} {x3 : Vec Ideal S256x512 .bf16} {x4 : Vec Ideal S256x512 .f32}
  {x5 : Vec Ideal S8x256 .f32} {x6 : Vec Ideal S1x512 .f32}
  {X : Fin 4 → Fin 64 → Fin 256 → EReal} {M : Fin 4 → EReal} {h : Fin 4}
  {ir br : FVec Ideal S1x256 .f32} {mp : Vec Ideal S1x1 .f32} {q k : Vec Ideal S256x64 .bf16}
  {v : Vec Ideal S256x128 .bf16} {ca : Vec Ideal S1x64x256 .f32} {kt : Vec Ideal S64x256 .bf16}
  {nw : Vec Ideal S1x128 .f32} {mo : Vec Ideal S256x128 .f32}

theorem headM_piece (hir : ∀ s, ir (ix2 0 s) = rowI x5 h s) (hbr : ∀ s, br (ix2 0 s) = rowB x5 h s) (hmp : mp (ix2 0 0) = M h)
    (x : S1x128.Idx) : headM ir br mp x = nextM x5 M h := by
  have hx : x = ix2 0 (x 1) := by
    funext a; fin_cases a
    · exact Fin.ext (by have := (x 0).isLt; change _ < 1 at this; change (x 0).val = 0; omega)
    · rfl
  rw [hx]
  refine (headM_at ir br mp _).trans ?_
  simp only [hir, hbr, hmp, nextM]

theorem headC_piece (hir : ∀ s, ir (ix2 0 s) = rowI x5 h s) (hbr : ∀ s, br (ix2 0 s) = rowB x5 h s) (hmp : mp (ix2 0 0) = M h)
    (hv : ∀ s d, v (ix2 s d) = x3 (ix2 s ⟨128 * h.val + d.val, by omega⟩)) (hca : ∀ j d, ca (ix3 0 j d) = X h j d)
    (hkt : ∀ j s, kt (ix2 j s) = x2 (ix2 ⟨64 * h.val + j.val, by omega⟩ s))
    (x : S1x64x256.Idx) (a : Fin 4) (b : Fin 64) (d : Fin 256) (h0 : a = h) (h1 : b.val = (x 1).val) (h2 : d.val = (x 2).val) :
    headC ir br mp v ca kt x = nextC x2 x3 x5 X M a b d := by
  have hx : x = ix3 0 b d := by
    funext a; fin_cases a
    · exact Fin.ext (by have := (x 0).isLt; change _ < 1 at this; change (x 0).val = 0; omega)
    · exact Fin.ext h1.symm
    · exact Fin.ext h2.symm
  rw [hx, h0]
  refine (headC_at ir br mp v ca kt _ _).trans ?_
  simp only [hir, hbr, hmp, hv, hca, hkt, nextC, rowV]

theorem headY_piece (hir : ∀ s, ir (ix2 0 s) = rowI x5 h s) (hbr : ∀ s, br (ix2 0 s) = rowB x5 h s) (hmp : mp (ix2 0 0) = M h)
    (hq : ∀ s (d : Fin 64), q (ix2 s d) = x0 (ix2 s ⟨64 * h.val + d.val, by omega⟩))
    (hk : ∀ s (d : Fin 64), k (ix2 s d) = x1 (ix2 s ⟨64 * h.val + d.val, by omega⟩))
    (hv : ∀ s d, v (ix2 s d) = x3 (ix2 s ⟨128 * h.val + d.val, by omega⟩)) (hca : ∀ j d, ca (ix3 0 j d) = X h j d)
    (hnw : ∀ d, nw (ix2 0 d) = x6 (ix2 0 ⟨128 * h.val + d.val, by omega⟩))
    (hmo : ∀ s d, mo (ix2 s d) = x4 (ix2 s ⟨128 * h.val + d.val, by omega⟩))
    (x : S256x128.Idx) (r : Fin 256) (e : Fin 4) (w : Fin 128) (he : e = h)
    (h0 : r.val = (x 0).val) (h1 : w.val = (x 1).val) :
    headY ir br mp q k v ca nw mo x = rowY x0 x1 x3 x4 x5 x6 X M e r w := by
  have hx : x = ix2 r w := by
    funext a; fin_cases a
    · exact Fin.ext h0.symm
    · exact Fin.ext h1.symm
  rw [hx, he]
  refine (headY_at ir br mp q k v ca nw mo _ _).trans ?_
  simp only [headH_at, hir, hbr, hmp, hq, hk, hv, hca, hnw, hmo, rowY, rowH]
end piece

section canon
variable {Val : EltTy → Type} {S : Shape} {e : EltTy} [∀ e, Nonempty (Val e)]

theorem canon_hit (off size : Fin S.rank → Nat) (inb) (w : (Rect.unit (s := S) off size inb).shape.Idx → Val e) (L : List (View.Piece Val S e)) (y : S.Idx)
    (x : (Rect.unit (s := S) off size inb).shape.Idx) (hx : ∀ a, (y a).val = off a + (x a).val) :
    View.canon (⟨Rect.unit off size inb, w⟩ :: L) y = w x := by
  have hy : (Rect.unit (s := S) off size inb).emb x = y := funext fun a => Fin.ext (by
    show off a + 1 * (x a).val = (y a).val
    rw [hx a, one_mul])
  rw [← hy]
  exact View.canon_cons_emb _ w L x

theorem canon_miss (off size : Fin S.rank → Nat) (inb) (w : (Rect.unit (s := S) off size inb).shape.Idx → Val e) (L : List (View.Piece Val S e)) (y : S.Idx)
    (a : Fin S.rank) (ha : (y a).val < off a ∨ off a + size a ≤ (y a).val) :
    View.canon (⟨Rect.unit off size inb, w⟩ :: L) y = View.canon L y := by
  refine View.canon_cons_of_not_mem _ L fun hy => ?_
  obtain ⟨x, hx⟩ := (Rect.unit (s := S) off size inb).exists_idx_of_mem hy
  have h := congrArg (fun z : S.Idx => (z a).val) hx
  have h' : off a + 1 * (x a).val = (y a).val := h
  have := (x a).isLt
  change (x a).val < size a at this
  omega
end canon

variable (m : (ℓ : Loc nD τ sig) → Buf (Elt Ideal) ℓ)

/-- The state array by head, row and column. -/
def stX (X : Vec Ideal S4x64x256 .f32) (h : Fin 4) (x : Fin 64) (d : Fin 256) : EReal := X (ix3 h x d)

/-- The running maxima by head. -/
def stM (X : Vec Ideal S8x128 .f32) (h : Fin 4) : EReal := X (ix2 ⟨h.val, by omega⟩ 0)

section heads
variable (x0 x1 x2 : Vec Ideal S256x256 .bf16) (x3 : Vec Ideal S256x512 .bf16) (x4 : Vec Ideal S256x512 .f32)
  (x5 : Vec Ideal S8x256 .f32) (x6 : Vec Ideal S1x512 .f32) (X : Vec Ideal S4x64x256 .f32) (M : Vec Ideal S8x128 .f32)

theorem pieceM0 (x : S1x128.Idx) (a : Fin 4) (h0 : a.val = 0) :
    headM (k0_pay13 (k0_pay7 x5)) (row4 (cumV x5)) (View.ld M (Rect.unit ![0, 0] ![1, 1] inb_S8x128_S1x1_0_0)) x = nextM x5 (stM M) a := by
  obtain rfl : a = 0 := Fin.ext h0
  exact headM_piece (h := 0) (pay13_at _) (row4_at _) ((View.ld_unit_apply_of _ _ _ _ _ _ (by intro a; fin_cases a <;> first | rfl | exact Nat.add_comm _ _ | exact (Nat.zero_add _).symm))) x

theorem pieceC0 (x : S1x64x256.Idx) (a : Fin 4) (b : Fin 64) (d : Fin 256) (h0 : a.val = 0) (h1 : b.val = (x 1).val) (h2 : d.val = (x 2).val) :
    headC (k0_pay13 (k0_pay7 x5)) (row4 (cumV x5)) (View.ld M (Rect.unit ![0, 0] ![1, 1] inb_S8x128_S1x1_0_0)) (View.ld x3 (Rect.unit ![0, 0] ![256, 128] inb_S256x512_S256x128_0_0)) (View.ld X (Rect.unit ![0, 0, 0] ![1, 64, 256] inb_S4x64x256_S1x64x256_0_0_0)) (View.ld x2 (Rect.unit ![0, 0] ![64, 256] inb_S256x256_S64x256_0_0)) x
      = nextC x2 x3 x5 (stX X) (stM M) a b d :=
  headC_piece (h := 0) (pay13_at _) (row4_at _) ((View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm)))
    (fun j d => (View.ld_unit_apply_of _ _ _ _ _ _ (by intro a; fin_cases a <;> first | rfl | exact Nat.add_comm _ _ | exact (Nat.zero_add _).symm))) (fun j s => (View.ld_unit_apply_of _ _ _ _ _ _ (by intro a; fin_cases a <;> first | rfl | exact Nat.add_comm _ _ | exact (Nat.zero_add _).symm))) x _ _ _ (Fin.ext h0) h1 h2

theorem pieceY0 (x : S256x128.Idx) (r : Fin 256) (e : Fin 4) (w : Fin 128) (h0 : e.val = 0) (h1 : r.val = (x 0).val) (h2 : w.val = (x 1).val) :
    headY (k0_pay13 (k0_pay7 x5)) (row4 (cumV x5)) (View.ld M (Rect.unit ![0, 0] ![1, 1] inb_S8x128_S1x1_0_0)) (View.ld x0 (Rect.unit ![0, 0] ![256, 64] inb_S256x256_S256x64_0_0)) (View.ld x1 (Rect.unit ![0, 0] ![256, 64] inb_S256x256_S256x64_0_0)) (View.ld x3 (Rect.unit ![0, 0] ![256, 128] inb_S256x512_S256x128_0_0)) (View.ld X (Rect.unit ![0, 0, 0] ![1, 64, 256] inb_S4x64x256_S1x64x256_0_0_0)) (View.ld x6 (Rect.unit ![0, 0] ![1, 128] inb_S1x512_S1x128_0_0)) (View.ld x4 (Rect.unit ![0, 0] ![256, 128] inb_S256x512_S256x128_0_0)) x
      = rowY x0 x1 x3 x4 x5 x6 (stX X) (stM M) e r w :=
  headY_piece (h := 0) (pay13_at _) (row4_at _) ((View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm)))
    (fun j d => (View.ld_unit_apply_of _ _ _ _ _ _ (by intro a; fin_cases a <;> first | rfl | exact Nat.add_comm _ _ | exact (Nat.zero_add _).symm))) (fun d => (View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm))) x _ _ _ (Fin.ext h0) h1 h2

theorem pieceM1 (x : S1x128.Idx) (a : Fin 4) (h0 : a.val = 1) :
    headM (k0_pay30 (k0_pay7 x5)) (k0_pay31 (cumV x5)) (View.ld M (Rect.unit ![1, 0] ![1, 1] inb_S8x128_S1x1_1_0)) x = nextM x5 (stM M) a := by
  obtain rfl : a = 1 := Fin.ext h0
  exact headM_piece (h := 1) (pay30_at _) (pay31_at _) ((View.ld_unit_apply_of _ _ _ _ _ _ (by intro a; fin_cases a <;> first | rfl | exact Nat.add_comm _ _ | exact (Nat.zero_add _).symm))) x

theorem pieceC1 (x : S1x64x256.Idx) (a : Fin 4) (b : Fin 64) (d : Fin 256) (h0 : a.val = 1) (h1 : b.val = (x 1).val) (h2 : d.val = (x 2).val) :
    headC (k0_pay30 (k0_pay7 x5)) (k0_pay31 (cumV x5)) (View.ld M (Rect.unit ![1, 0] ![1, 1] inb_S8x128_S1x1_1_0)) (View.ld x3 (Rect.unit ![0, 128] ![256, 128] inb_S256x512_S256x128_0_128)) (View.ld X (Rect.unit ![1, 0, 0] ![1, 64, 256] inb_S4x64x256_S1x64x256_1_0_0)) (View.ld x2 (Rect.unit ![64, 0] ![64, 256] inb_S256x256_S64x256_64_0)) x
      = nextC x2 x3 x5 (stX X) (stM M) a b d :=
  headC_piece (h := 1) (pay30_at _) (pay31_at _) ((View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm)))
    (fun j d => (View.ld_unit_apply_of _ _ _ _ _ _ (by intro a; fin_cases a <;> first | rfl | exact Nat.add_comm _ _ | exact (Nat.zero_add _).symm))) (fun j s => (View.ld_unit_apply_of _ _ _ _ _ _ (by intro a; fin_cases a <;> first | rfl | exact Nat.add_comm _ _ | exact (Nat.zero_add _).symm))) x _ _ _ (Fin.ext h0) h1 h2

theorem pieceY1 (x : S256x128.Idx) (r : Fin 256) (e : Fin 4) (w : Fin 128) (h0 : e.val = 1) (h1 : r.val = (x 0).val) (h2 : w.val = (x 1).val) :
    headY (k0_pay30 (k0_pay7 x5)) (k0_pay31 (cumV x5)) (View.ld M (Rect.unit ![1, 0] ![1, 1] inb_S8x128_S1x1_1_0)) (View.ld x0 (Rect.unit ![0, 64] ![256, 64] inb_S256x256_S256x64_0_64)) (View.ld x1 (Rect.unit ![0, 64] ![256, 64] inb_S256x256_S256x64_0_64)) (View.ld x3 (Rect.unit ![0, 128] ![256, 128] inb_S256x512_S256x128_0_128)) (View.ld X (Rect.unit ![1, 0, 0] ![1, 64, 256] inb_S4x64x256_S1x64x256_1_0_0)) (View.ld x6 (Rect.unit ![0, 128] ![1, 128] inb_S1x512_S1x128_0_128)) (View.ld x4 (Rect.unit ![0, 128] ![256, 128] inb_S256x512_S256x128_0_128)) x
      = rowY x0 x1 x3 x4 x5 x6 (stX X) (stM M) e r w :=
  headY_piece (h := 1) (pay30_at _) (pay31_at _) ((View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm)))
    (fun j d => (View.ld_unit_apply_of _ _ _ _ _ _ (by intro a; fin_cases a <;> first | rfl | exact Nat.add_comm _ _ | exact (Nat.zero_add _).symm))) (fun d => (View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm))) x _ _ _ (Fin.ext h0) h1 h2

theorem pieceM2 (x : S1x128.Idx) (a : Fin 4) (h0 : a.val = 2) :
    headM (k0_pay45 (k0_pay7 x5)) (k0_pay46 (cumV x5)) (View.ld M (Rect.unit ![2, 0] ![1, 1] inb_S8x128_S1x1_2_0)) x = nextM x5 (stM M) a := by
  obtain rfl : a = 2 := Fin.ext h0
  exact headM_piece (h := 2) (pay45_at _) (pay46_at _) ((View.ld_unit_apply_of _ _ _ _ _ _ (by intro a; fin_cases a <;> first | rfl | exact Nat.add_comm _ _ | exact (Nat.zero_add _).symm))) x

theorem pieceC2 (x : S1x64x256.Idx) (a : Fin 4) (b : Fin 64) (d : Fin 256) (h0 : a.val = 2) (h1 : b.val = (x 1).val) (h2 : d.val = (x 2).val) :
    headC (k0_pay45 (k0_pay7 x5)) (k0_pay46 (cumV x5)) (View.ld M (Rect.unit ![2, 0] ![1, 1] inb_S8x128_S1x1_2_0)) (View.ld x3 (Rect.unit ![0, 256] ![256, 128] inb_S256x512_S256x128_0_256)) (View.ld X (Rect.unit ![2, 0, 0] ![1, 64, 256] inb_S4x64x256_S1x64x256_2_0_0)) (View.ld x2 (Rect.unit ![128, 0] ![64, 256] inb_S256x256_S64x256_128_0)) x
      = nextC x2 x3 x5 (stX X) (stM M) a b d :=
  headC_piece (h := 2) (pay45_at _) (pay46_at _) ((View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm)))
    (fun j d => (View.ld_unit_apply_of _ _ _ _ _ _ (by intro a; fin_cases a <;> first | rfl | exact Nat.add_comm _ _ | exact (Nat.zero_add _).symm))) (fun j s => (View.ld_unit_apply_of _ _ _ _ _ _ (by intro a; fin_cases a <;> first | rfl | exact Nat.add_comm _ _ | exact (Nat.zero_add _).symm))) x _ _ _ (Fin.ext h0) h1 h2

theorem pieceY2 (x : S256x128.Idx) (r : Fin 256) (e : Fin 4) (w : Fin 128) (h0 : e.val = 2) (h1 : r.val = (x 0).val) (h2 : w.val = (x 1).val) :
    headY (k0_pay45 (k0_pay7 x5)) (k0_pay46 (cumV x5)) (View.ld M (Rect.unit ![2, 0] ![1, 1] inb_S8x128_S1x1_2_0)) (View.ld x0 (Rect.unit ![0, 128] ![256, 64] inb_S256x256_S256x64_0_128)) (View.ld x1 (Rect.unit ![0, 128] ![256, 64] inb_S256x256_S256x64_0_128)) (View.ld x3 (Rect.unit ![0, 256] ![256, 128] inb_S256x512_S256x128_0_256)) (View.ld X (Rect.unit ![2, 0, 0] ![1, 64, 256] inb_S4x64x256_S1x64x256_2_0_0)) (View.ld x6 (Rect.unit ![0, 256] ![1, 128] inb_S1x512_S1x128_0_256)) (View.ld x4 (Rect.unit ![0, 256] ![256, 128] inb_S256x512_S256x128_0_256)) x
      = rowY x0 x1 x3 x4 x5 x6 (stX X) (stM M) e r w :=
  headY_piece (h := 2) (pay45_at _) (pay46_at _) ((View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm)))
    (fun j d => (View.ld_unit_apply_of _ _ _ _ _ _ (by intro a; fin_cases a <;> first | rfl | exact Nat.add_comm _ _ | exact (Nat.zero_add _).symm))) (fun d => (View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm))) x _ _ _ (Fin.ext h0) h1 h2

theorem pieceM3 (x : S1x128.Idx) (a : Fin 4) (h0 : a.val = 3) :
    headM (k0_pay63 (k0_pay7 x5)) (k0_pay64 (cumV x5)) (View.ld M (Rect.unit ![3, 0] ![1, 1] inb_S8x128_S1x1_3_0)) x = nextM x5 (stM M) a := by
  obtain rfl : a = 3 := Fin.ext h0
  exact headM_piece (h := 3) (pay63_at _) (pay64_at _) ((View.ld_unit_apply_of _ _ _ _ _ _ (by intro a; fin_cases a <;> first | rfl | exact Nat.add_comm _ _ | exact (Nat.zero_add _).symm))) x

theorem pieceC3 (x : S1x64x256.Idx) (a : Fin 4) (b : Fin 64) (d : Fin 256) (h0 : a.val = 3) (h1 : b.val = (x 1).val) (h2 : d.val = (x 2).val) :
    headC (k0_pay63 (k0_pay7 x5)) (k0_pay64 (cumV x5)) (View.ld M (Rect.unit ![3, 0] ![1, 1] inb_S8x128_S1x1_3_0)) (View.ld x3 (Rect.unit ![0, 384] ![256, 128] inb_S256x512_S256x128_0_384)) (View.ld X (Rect.unit ![3, 0, 0] ![1, 64, 256] inb_S4x64x256_S1x64x256_3_0_0)) (View.ld x2 (Rect.unit ![192, 0] ![64, 256] inb_S256x256_S64x256_192_0)) x
      = nextC x2 x3 x5 (stX X) (stM M) a b d :=
  headC_piece (h := 3) (pay63_at _) (pay64_at _) ((View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm)))
    (fun j d => (View.ld_unit_apply_of _ _ _ _ _ _ (by intro a; fin_cases a <;> first | rfl | exact Nat.add_comm _ _ | exact (Nat.zero_add _).symm))) (fun j s => (View.ld_unit_apply_of _ _ _ _ _ _ (by intro a; fin_cases a <;> first | rfl | exact Nat.add_comm _ _ | exact (Nat.zero_add _).symm))) x _ _ _ (Fin.ext h0) h1 h2

theorem pieceY3 (x : S256x128.Idx) (r : Fin 256) (e : Fin 4) (w : Fin 128) (h0 : e.val = 3) (h1 : r.val = (x 0).val) (h2 : w.val = (x 1).val) :
    headY (k0_pay63 (k0_pay7 x5)) (k0_pay64 (cumV x5)) (View.ld M (Rect.unit ![3, 0] ![1, 1] inb_S8x128_S1x1_3_0)) (View.ld x0 (Rect.unit ![0, 192] ![256, 64] inb_S256x256_S256x64_0_192)) (View.ld x1 (Rect.unit ![0, 192] ![256, 64] inb_S256x256_S256x64_0_192)) (View.ld x3 (Rect.unit ![0, 384] ![256, 128] inb_S256x512_S256x128_0_384)) (View.ld X (Rect.unit ![3, 0, 0] ![1, 64, 256] inb_S4x64x256_S1x64x256_3_0_0)) (View.ld x6 (Rect.unit ![0, 384] ![1, 128] inb_S1x512_S1x128_0_384)) (View.ld x4 (Rect.unit ![0, 384] ![256, 128] inb_S256x512_S256x128_0_384)) x
      = rowY x0 x1 x3 x4 x5 x6 (stX X) (stM M) e r w :=
  headY_piece (h := 3) (pay63_at _) (pay64_at _) ((View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm)))
    (fun j d => (View.ld_unit_apply_of _ _ _ _ _ _ (by intro a; fin_cases a <;> first | rfl | exact Nat.add_comm _ _ | exact (Nat.zero_add _).symm))) (fun d => (View.ld_unit_apply_of _ _ _ _ _ _ (by intro a; fin_cases a <;> first | rfl | exact Nat.add_comm _ _ | exact (Nat.zero_add _).symm))) (fun s d => (View.ld_unit_apply_of _ _ _ _ _ _ (by intro a; fin_cases a <;> first | rfl | exact Nat.add_comm _ _ | exact (Nat.zero_add _).symm))) x _ _ _ (Fin.ext h0) h1 h2

end heads

theorem caseA_C (c : Dev nD) (t : Fin cfg0.N) (h0 : t.val % 32 = 0) (h1 : ¬t.val % 32 = 31) (y) :
    (outsAt0 m c t.val t.isLt).2.2.2.1 y = nextC (iblk m c 2 t) (iblk m c 3 t) (iblk m c 5 t) (stX (k0_pay5 (F := Ideal))) (stM (k0_pay6 (F := Ideal))) (y 0) (y 1) (y 2) := by
  have hy : (y 0).val < 4 := (y 0).isLt
  rw [outsAt0_A m c t h0 h1]; frame_open
  simp (discharger := first | decide | rfl | (intro a; fin_cases a <;> rfl)) only [↓View.readCov_skip, ↓View.readCov_fill, ↓read_unread_whole]
  frame_out
  rcases (by omega : (y 0).val = 3 ∨ (y 0).val = 2 ∨ (y 0).val = 1 ∨ (y 0).val = 0) with h | h | h | h
  ·
    refine Eq.trans (canon_hit _ _ _ _ _ _ (ix3 0 (y 1) (y 2)) (by intro a; fin_cases a <;> first | exact h | exact (Nat.zero_add _).symm)) ?_
    rw [headC3_eq, cumV_eq]; exact pieceC3 (iblk m c 2 t) (iblk m c 3 t) (iblk m c 5 t) (k0_pay5 (F := Ideal)) (k0_pay6 (F := Ideal)) _ _ _ _ h rfl rfl
  ·
    refine Eq.trans (canon_miss _ _ _ _ _ _ 0 (Or.inl (by show (y 0).val < 3; omega))) ?_
    refine Eq.trans (canon_hit _ _ _ _ _ _ (ix3 0 (y 1) (y 2)) (by intro a; fin_cases a <;> first | exact h | exact (Nat.zero_add _).symm)) ?_
    rw [headC2_eq, cumV_eq]; exact pieceC2 (iblk m c 2 t) (iblk m c 3 t) (iblk m c 5 t) (k0_pay5 (F := Ideal)) (k0_pay6 (F := Ideal)) _ _ _ _ h rfl rfl
  ·
    refine Eq.trans (canon_miss _ _ _ _ _ _ 0 (Or.inl (by show (y 0).val < 3; omega))) ?_
    refine Eq.trans (canon_miss _ _ _ _ _ _ 0 (Or.inl (by show (y 0).val < 2; omega))) ?_
    refine Eq.trans (canon_hit _ _ _ _ _ _ (ix3 0 (y 1) (y 2)) (by intro a; fin_cases a <;> first | exact h | exact (Nat.zero_add _).symm)) ?_
    rw [headC1_eq, cumV_eq]; exact pieceC1 (iblk m c 2 t) (iblk m c 3 t) (iblk m c 5 t) (k0_pay5 (F := Ideal)) (k0_pay6 (F := Ideal)) _ _ _ _ h rfl rfl
  ·
    refine Eq.trans (canon_miss _ _ _ _ _ _ 0 (Or.inl (by show (y 0).val < 3; omega))) ?_
    refine Eq.trans (canon_miss _ _ _ _ _ _ 0 (Or.inl (by show (y 0).val < 2; omega))) ?_
    refine Eq.trans (canon_miss _ _ _ _ _ _ 0 (Or.inl (by show (y 0).val < 1; omega))) ?_
    refine Eq.trans (canon_hit _ _ _ _ _ _ (ix3 0 (y 1) (y 2)) (by intro a; fin_cases a <;> first | exact h | exact (Nat.zero_add _).symm)) ?_
    rw [pay14_eq]; exact pieceC0 (iblk m c 2 t) (iblk m c 3 t) (iblk m c 5 t) (k0_pay5 (F := Ideal)) (k0_pay6 (F := Ideal)) _ _ _ _ h rfl rfl

theorem caseA_Y (c : Dev nD) (t : Fin cfg0.N) (h0 : t.val % 32 = 0) (h1 : ¬t.val % 32 = 31) (y) :
    (outsAt0 m c t.val t.isLt).1 y = rowY (iblk m c 0 t) (iblk m c 1 t) (iblk m c 3 t) (iblk m c 4 t) (iblk m c 5 t) (iblk m c 6 t) (stX (k0_pay5 (F := Ideal))) (stM (k0_pay6 (F := Ideal)))
      ⟨(y 1).val / 128, Nat.div_lt_of_lt_mul (y 1).isLt⟩ (y 0) ⟨(y 1).val % 128, Nat.mod_lt _ (by decide)⟩ := by
  rw [outsAt0_A m c t h0 h1]; frame_open
  simp (discharger := first | decide | rfl | (intro a; fin_cases a <;> rfl)) only [↓View.readCov_skip, ↓View.readCov_fill, ↓read_unread_whole]
  frame_out
  clear h0 h1
  canon_tiles x hh
  case piece0 =>
    rw [headY3_eq, cumV_eq]; exact pieceY3 (iblk m c 0 t) (iblk m c 1 t) (iblk m c 3 t) (iblk m c 4 t) (iblk m c 5 t) (iblk m c 6 t) (k0_pay5 (F := Ideal)) (k0_pay6 (F := Ideal)) x _ _ _ (by show (y 1).val / 128 = 3; omega) hh0 (by show (y 1).val % 128 = _; omega)
  case piece1 =>
    rw [headY2_eq, cumV_eq]; exact pieceY2 (iblk m c 0 t) (iblk m c 1 t) (iblk m c 3 t) (iblk m c 4 t) (iblk m c 5 t) (iblk m c 6 t) (k0_pay5 (F := Ideal)) (k0_pay6 (F := Ideal)) x _ _ _ (by show (y 1).val / 128 = 2; omega) hh0 (by show (y 1).val % 128 = _; omega)
  case piece2 =>
    rw [headY1_eq, cumV_eq]; exact pieceY1 (iblk m c 0 t) (iblk m c 1 t) (iblk m c 3 t) (iblk m c 4 t) (iblk m c 5 t) (iblk m c 6 t) (k0_pay5 (F := Ideal)) (k0_pay6 (F := Ideal)) x _ _ _ (by show (y 1).val / 128 = 1; omega) hh0 (by show (y 1).val % 128 = _; omega)
  case piece3 =>
    rw [pay14_eq]; exact pieceY0 (iblk m c 0 t) (iblk m c 1 t) (iblk m c 3 t) (iblk m c 4 t) (iblk m c 5 t) (iblk m c 6 t) (k0_pay5 (F := Ideal)) (k0_pay6 (F := Ideal)) x _ _ _ (by show (y 1).val / 128 = 0; omega) hh0 (by show (y 1).val % 128 = _; omega)

theorem caseB_C (c : Dev nD) (t : Fin cfg0.N) (h0 : ¬t.val % 32 = 0) (h1 : ¬t.val % 32 = 31) (y) :
    (outsAt0 m c t.val t.isLt).2.2.2.1 y = nextC (iblk m c 2 t) (iblk m c 3 t) (iblk m c 5 t) (stX (outsAt0 m c (t.val - 1) (lt_of_le_of_lt (Nat.sub_le _ _) t.isLt)).2.2.2.1) (stM (outsAt0 m c (t.val - 1) (lt_of_le_of_lt (Nat.sub_le _ _) t.isLt)).2.2.2.2) (y 0) (y 1) (y 2) := by
  rw [outsAt0_B m c t h0 h1]; frame_open
  simp (discharger := first | decide | rfl | (intro a; fin_cases a <;> rfl)) only [↓View.readCov_skip, ↓View.readCov_fill, ↓read_unread_whole]
  frame_out
  simp only [read_unread_whole]
  clear h0 h1
  canon_tiles x hh
  case piece0 =>
    rw [headC3_eq, cumV_eq]; exact pieceC3 (iblk m c 2 t) (iblk m c 3 t) (iblk m c 5 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by omega) hh1 hh2
  case piece1 =>
    rw [headC2_eq, cumV_eq]; exact pieceC2 (iblk m c 2 t) (iblk m c 3 t) (iblk m c 5 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by omega) hh1 hh2
  case piece2 =>
    rw [headC1_eq, cumV_eq]; exact pieceC1 (iblk m c 2 t) (iblk m c 3 t) (iblk m c 5 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by omega) hh1 hh2
  case piece3 =>
    rw [pay14_eq]; exact pieceC0 (iblk m c 2 t) (iblk m c 3 t) (iblk m c 5 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by omega) hh1 hh2

theorem caseB_Y (c : Dev nD) (t : Fin cfg0.N) (h0 : ¬t.val % 32 = 0) (h1 : ¬t.val % 32 = 31) (y) :
    (outsAt0 m c t.val t.isLt).1 y = rowY (iblk m c 0 t) (iblk m c 1 t) (iblk m c 3 t) (iblk m c 4 t) (iblk m c 5 t) (iblk m c 6 t) (stX (outsAt0 m c (t.val - 1) (lt_of_le_of_lt (Nat.sub_le _ _) t.isLt)).2.2.2.1) (stM (outsAt0 m c (t.val - 1) (lt_of_le_of_lt (Nat.sub_le _ _) t.isLt)).2.2.2.2)
      ⟨(y 1).val / 128, Nat.div_lt_of_lt_mul (y 1).isLt⟩ (y 0) ⟨(y 1).val % 128, Nat.mod_lt _ (by decide)⟩ := by
  rw [outsAt0_B m c t h0 h1]; frame_open
  simp (discharger := first | decide | rfl | (intro a; fin_cases a <;> rfl)) only [↓View.readCov_skip, ↓View.readCov_fill, ↓read_unread_whole]
  frame_out
  simp only [read_unread_whole]
  clear h0 h1
  canon_tiles x hh
  case piece0 =>
    rw [headY3_eq, cumV_eq]; exact pieceY3 (iblk m c 0 t) (iblk m c 1 t) (iblk m c 3 t) (iblk m c 4 t) (iblk m c 5 t) (iblk m c 6 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by show (y 1).val / 128 = 3; omega) hh0 (by show (y 1).val % 128 = _; omega)
  case piece1 =>
    rw [headY2_eq, cumV_eq]; exact pieceY2 (iblk m c 0 t) (iblk m c 1 t) (iblk m c 3 t) (iblk m c 4 t) (iblk m c 5 t) (iblk m c 6 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by show (y 1).val / 128 = 2; omega) hh0 (by show (y 1).val % 128 = _; omega)
  case piece2 =>
    rw [headY1_eq, cumV_eq]; exact pieceY1 (iblk m c 0 t) (iblk m c 1 t) (iblk m c 3 t) (iblk m c 4 t) (iblk m c 5 t) (iblk m c 6 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by show (y 1).val / 128 = 1; omega) hh0 (by show (y 1).val % 128 = _; omega)
  case piece3 =>
    rw [pay14_eq]; exact pieceY0 (iblk m c 0 t) (iblk m c 1 t) (iblk m c 3 t) (iblk m c 4 t) (iblk m c 5 t) (iblk m c 6 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by show (y 1).val / 128 = 0; omega) hh0 (by show (y 1).val % 128 = _; omega)

theorem caseC_C (c : Dev nD) (t : Fin cfg0.N) (h0 : ¬t.val % 32 = 0) (h1 : t.val % 32 = 31) (y) :
    (outsAt0 m c t.val t.isLt).2.2.2.1 y = nextC (iblk m c 2 t) (iblk m c 3 t) (iblk m c 5 t) (stX (outsAt0 m c (t.val - 1) (lt_of_le_of_lt (Nat.sub_le _ _) t.isLt)).2.2.2.1) (stM (outsAt0 m c (t.val - 1) (lt_of_le_of_lt (Nat.sub_le _ _) t.isLt)).2.2.2.2) (y 0) (y 1) (y 2) := by
  rw [outsAt0_C m c t h0 h1]; frame_open
  simp (discharger := first | decide | rfl | (intro a; fin_cases a <;> rfl)) only [↓View.readCov_skip, ↓View.readCov_fill, ↓read_unread_whole]
  frame_out
  simp only [read_unread_whole]
  clear h0 h1
  canon_tiles x hh
  case piece0 =>
    rw [headC3_eq, cumV_eq]; exact pieceC3 (iblk m c 2 t) (iblk m c 3 t) (iblk m c 5 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by omega) hh1 hh2
  case piece1 =>
    rw [headC2_eq, cumV_eq]; exact pieceC2 (iblk m c 2 t) (iblk m c 3 t) (iblk m c 5 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by omega) hh1 hh2
  case piece2 =>
    rw [headC1_eq, cumV_eq]; exact pieceC1 (iblk m c 2 t) (iblk m c 3 t) (iblk m c 5 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by omega) hh1 hh2
  case piece3 =>
    rw [pay14_eq]; exact pieceC0 (iblk m c 2 t) (iblk m c 3 t) (iblk m c 5 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by omega) hh1 hh2

theorem caseC_Y (c : Dev nD) (t : Fin cfg0.N) (h0 : ¬t.val % 32 = 0) (h1 : t.val % 32 = 31) (y) :
    (outsAt0 m c t.val t.isLt).1 y = rowY (iblk m c 0 t) (iblk m c 1 t) (iblk m c 3 t) (iblk m c 4 t) (iblk m c 5 t) (iblk m c 6 t) (stX (outsAt0 m c (t.val - 1) (lt_of_le_of_lt (Nat.sub_le _ _) t.isLt)).2.2.2.1) (stM (outsAt0 m c (t.val - 1) (lt_of_le_of_lt (Nat.sub_le _ _) t.isLt)).2.2.2.2)
      ⟨(y 1).val / 128, Nat.div_lt_of_lt_mul (y 1).isLt⟩ (y 0) ⟨(y 1).val % 128, Nat.mod_lt _ (by decide)⟩ := by
  rw [outsAt0_C m c t h0 h1]; frame_open
  simp (discharger := first | decide | rfl | (intro a; fin_cases a <;> rfl)) only [↓View.readCov_skip, ↓View.readCov_fill, ↓read_unread_whole]
  frame_out
  simp only [read_unread_whole]
  clear h0 h1
  canon_tiles x hh
  case piece0 =>
    rw [headY3_eq, cumV_eq]; exact pieceY3 (iblk m c 0 t) (iblk m c 1 t) (iblk m c 3 t) (iblk m c 4 t) (iblk m c 5 t) (iblk m c 6 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by show (y 1).val / 128 = 3; omega) hh0 (by show (y 1).val % 128 = _; omega)
  case piece1 =>
    rw [headY2_eq, cumV_eq]; exact pieceY2 (iblk m c 0 t) (iblk m c 1 t) (iblk m c 3 t) (iblk m c 4 t) (iblk m c 5 t) (iblk m c 6 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by show (y 1).val / 128 = 2; omega) hh0 (by show (y 1).val % 128 = _; omega)
  case piece2 =>
    rw [headY1_eq, cumV_eq]; exact pieceY1 (iblk m c 0 t) (iblk m c 1 t) (iblk m c 3 t) (iblk m c 4 t) (iblk m c 5 t) (iblk m c 6 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by show (y 1).val / 128 = 1; omega) hh0 (by show (y 1).val % 128 = _; omega)
  case piece3 =>
    rw [pay14_eq]; exact pieceY0 (iblk m c 0 t) (iblk m c 1 t) (iblk m c 3 t) (iblk m c 4 t) (iblk m c 5 t) (iblk m c 6 t) (outsAt0 m c (t.val - 1) (lt_of_le_of_lt (Nat.sub_le _ _) t.isLt)).2.2.2.1 (outsAt0 m c (t.val - 1) (lt_of_le_of_lt (Nat.sub_le _ _) t.isLt)).2.2.2.2 x _ _ _ (by show (y 1).val / 128 = 0; omega) hh0 (by show (y 1).val % 128 = _; omega)

theorem caseA_M (c : Dev nD) (t : Fin cfg0.N) (h0 : t.val % 32 = 0) (h1 : ¬t.val % 32 = 31) (e : Fin 4) (j : Fin 128) :
    (outsAt0 m c t.val t.isLt).2.2.2.2 (ix2 ⟨e.val, by omega⟩ j) = nextM (iblk m c 5 t) (stM (k0_pay6 (F := Ideal))) e := by
  rw [outsAt0_A m c t h0 h1]; frame_open
  simp (discharger := first | decide | rfl | (intro a; fin_cases a <;> rfl)) only [↓View.readCov_skip, ↓View.readCov_fill, ↓read_unread_whole]
  frame_out
  rcases (by omega : e.val = 3 ∨ e.val = 2 ∨ e.val = 1 ∨ e.val = 0) with h | h | h | h
  ·
    refine Eq.trans (canon_hit _ _ _ _ _ _ (ix2 0 j) (by intro a; fin_cases a <;> first | exact h | exact (Nat.zero_add _).symm)) ?_
    rw [headM3_eq, cumV_eq]; exact pieceM3 (iblk m c 5 t) (k0_pay6 (F := Ideal)) _ _ h
  ·
    refine Eq.trans (canon_miss _ _ _ _ _ _ 0 (Or.inl (by show e.val < 3; omega))) ?_
    refine Eq.trans (canon_hit _ _ _ _ _ _ (ix2 0 j) (by intro a; fin_cases a <;> first | exact h | exact (Nat.zero_add _).symm)) ?_
    rw [headM2_eq, cumV_eq]; exact pieceM2 (iblk m c 5 t) (k0_pay6 (F := Ideal)) _ _ h
  ·
    refine Eq.trans (canon_miss _ _ _ _ _ _ 0 (Or.inl (by show e.val < 3; omega))) ?_
    refine Eq.trans (canon_miss _ _ _ _ _ _ 0 (Or.inl (by show e.val < 2; omega))) ?_
    refine Eq.trans (canon_hit _ _ _ _ _ _ (ix2 0 j) (by intro a; fin_cases a <;> first | exact h | exact (Nat.zero_add _).symm)) ?_
    rw [headM1_eq, cumV_eq]; exact pieceM1 (iblk m c 5 t) (k0_pay6 (F := Ideal)) _ _ h
  ·
    refine Eq.trans (canon_miss _ _ _ _ _ _ 0 (Or.inl (by show e.val < 3; omega))) ?_
    refine Eq.trans (canon_miss _ _ _ _ _ _ 0 (Or.inl (by show e.val < 2; omega))) ?_
    refine Eq.trans (canon_miss _ _ _ _ _ _ 0 (Or.inl (by show e.val < 1; omega))) ?_
    refine Eq.trans (canon_hit _ _ _ _ _ _ (ix2 0 j) (by intro a; fin_cases a <;> first | exact h | exact (Nat.zero_add _).symm)) ?_
    rw [pay14_eq]; exact pieceM0 (iblk m c 5 t) (k0_pay6 (F := Ideal)) _ _ h

theorem caseB_M (c : Dev nD) (t : Fin cfg0.N) (h0 : ¬t.val % 32 = 0) (h1 : ¬t.val % 32 = 31) (e : Fin 4) (j : Fin 128) :
    (outsAt0 m c t.val t.isLt).2.2.2.2 (ix2 ⟨e.val, by omega⟩ j) = nextM (iblk m c 5 t) (stM (outsAt0 m c (t.val - 1) (lt_of_le_of_lt (Nat.sub_le _ _) t.isLt)).2.2.2.2) e := by
  rw [outsAt0_B m c t h0 h1]; frame_open
  simp (discharger := first | decide | rfl | (intro a; fin_cases a <;> rfl)) only [↓View.readCov_skip, ↓View.readCov_fill, ↓read_unread_whole]
  frame_out
  simp only [read_unread_whole]
  rcases (by omega : e.val = 3 ∨ e.val = 2 ∨ e.val = 1 ∨ e.val = 0) with h | h | h | h
  ·
    refine Eq.trans (View.read_writes_cons_unit_of_mem _ _ _ _ _ _ (ix2 0 j) rfl (by intro a; fin_cases a <;> first | exact h | exact (Nat.zero_add _).symm)) ?_
    rw [headM3_eq, cumV_eq]; exact pieceM3 (iblk m c 5 t) (outsAt0 m c (t.val - 1) (lt_of_le_of_lt (Nat.sub_le _ _) t.isLt)).2.2.2.2 _ _ h
  ·
    refine Eq.trans (View.read_writes_cons_unit_of_not_mem _ _ _ _ _ _ rfl 0 (Or.inl (by show e.val < 3; omega))) ?_
    refine Eq.trans (View.read_writes_cons_unit_of_mem _ _ _ _ _ _ (ix2 0 j) rfl (by intro a; fin_cases a <;> first | exact h | exact (Nat.zero_add _).symm)) ?_
    rw [headM2_eq, cumV_eq]; exact pieceM2 (iblk m c 5 t) (outsAt0 m c (t.val - 1) (lt_of_le_of_lt (Nat.sub_le _ _) t.isLt)).2.2.2.2 _ _ h
  ·
    refine Eq.trans (View.read_writes_cons_unit_of_not_mem _ _ _ _ _ _ rfl 0 (Or.inl (by show e.val < 3; omega))) ?_
    refine Eq.trans (View.read_writes_cons_unit_of_not_mem _ _ _ _ _ _ rfl 0 (Or.inl (by show e.val < 2; omega))) ?_
    refine Eq.trans (View.read_writes_cons_unit_of_mem _ _ _ _ _ _ (ix2 0 j) rfl (by intro a; fin_cases a <;> first | exact h | exact (Nat.zero_add _).symm)) ?_
    rw [headM1_eq, cumV_eq]; exact pieceM1 (iblk m c 5 t) (outsAt0 m c (t.val - 1) (lt_of_le_of_lt (Nat.sub_le _ _) t.isLt)).2.2.2.2 _ _ h
  ·
    refine Eq.trans (View.read_writes_cons_unit_of_not_mem _ _ _ _ _ _ rfl 0 (Or.inl (by show e.val < 3; omega))) ?_
    refine Eq.trans (View.read_writes_cons_unit_of_not_mem _ _ _ _ _ _ rfl 0 (Or.inl (by show e.val < 2; omega))) ?_
    refine Eq.trans (View.read_writes_cons_unit_of_not_mem _ _ _ _ _ _ rfl 0 (Or.inl (by show e.val < 1; omega))) ?_
    refine Eq.trans (View.read_writes_cons_unit_of_mem _ _ _ _ _ _ (ix2 0 j) rfl (by intro a; fin_cases a <;> first | exact h | exact (Nat.zero_add _).symm)) ?_
    rw [pay14_eq]; exact pieceM0 (iblk m c 5 t) (outsAt0 m c (t.val - 1) (lt_of_le_of_lt (Nat.sub_le _ _) t.isLt)).2.2.2.2 _ _ h

theorem caseC_M (c : Dev nD) (t : Fin cfg0.N) (h0 : ¬t.val % 32 = 0) (h1 : t.val % 32 = 31) (e : Fin 4) (j : Fin 128) :
    (outsAt0 m c t.val t.isLt).2.2.2.2 (ix2 ⟨e.val, by omega⟩ j) = nextM (iblk m c 5 t) (stM (outsAt0 m c (t.val - 1) (lt_of_le_of_lt (Nat.sub_le _ _) t.isLt)).2.2.2.2) e := by
  rw [outsAt0_C m c t h0 h1]; frame_open
  simp (discharger := first | decide | rfl | (intro a; fin_cases a <;> rfl)) only [↓View.readCov_skip, ↓View.readCov_fill, ↓read_unread_whole]
  frame_out
  simp only [read_unread_whole]
  rcases (by omega : e.val = 3 ∨ e.val = 2 ∨ e.val = 1 ∨ e.val = 0) with h | h | h | h
  ·
    refine Eq.trans (View.read_writes_cons_unit_of_mem _ _ _ _ _ _ (ix2 0 j) rfl (by intro a; fin_cases a <;> first | exact h | exact (Nat.zero_add _).symm)) ?_
    rw [headM3_eq, cumV_eq]; exact pieceM3 (iblk m c 5 t) (outsAt0 m c (t.val - 1) (lt_of_le_of_lt (Nat.sub_le _ _) t.isLt)).2.2.2.2 _ _ h
  ·
    refine Eq.trans (View.read_writes_cons_unit_of_not_mem _ _ _ _ _ _ rfl 0 (Or.inl (by show e.val < 3; omega))) ?_
    refine Eq.trans (View.read_writes_cons_unit_of_mem _ _ _ _ _ _ (ix2 0 j) rfl (by intro a; fin_cases a <;> first | exact h | exact (Nat.zero_add _).symm)) ?_
    rw [headM2_eq, cumV_eq]; exact pieceM2 (iblk m c 5 t) (outsAt0 m c (t.val - 1) (lt_of_le_of_lt (Nat.sub_le _ _) t.isLt)).2.2.2.2 _ _ h
  ·
    refine Eq.trans (View.read_writes_cons_unit_of_not_mem _ _ _ _ _ _ rfl 0 (Or.inl (by show e.val < 3; omega))) ?_
    refine Eq.trans (View.read_writes_cons_unit_of_not_mem _ _ _ _ _ _ rfl 0 (Or.inl (by show e.val < 2; omega))) ?_
    refine Eq.trans (View.read_writes_cons_unit_of_mem _ _ _ _ _ _ (ix2 0 j) rfl (by intro a; fin_cases a <;> first | exact h | exact (Nat.zero_add _).symm)) ?_
    rw [headM1_eq, cumV_eq]; exact pieceM1 (iblk m c 5 t) (outsAt0 m c (t.val - 1) (lt_of_le_of_lt (Nat.sub_le _ _) t.isLt)).2.2.2.2 _ _ h
  ·
    refine Eq.trans (View.read_writes_cons_unit_of_not_mem _ _ _ _ _ _ rfl 0 (Or.inl (by show e.val < 3; omega))) ?_
    refine Eq.trans (View.read_writes_cons_unit_of_not_mem _ _ _ _ _ _ rfl 0 (Or.inl (by show e.val < 2; omega))) ?_
    refine Eq.trans (View.read_writes_cons_unit_of_not_mem _ _ _ _ _ _ rfl 0 (Or.inl (by show e.val < 1; omega))) ?_
    refine Eq.trans (View.read_writes_cons_unit_of_mem _ _ _ _ _ _ (ix2 0 j) rfl (by intro a; fin_cases a <;> first | exact h | exact (Nat.zero_add _).symm)) ?_
    rw [pay14_eq]; exact pieceM0 (iblk m c 5 t) (outsAt0 m c (t.val - 1) (lt_of_le_of_lt (Nat.sub_le _ _) t.isLt)).2.2.2.2 _ _ h

theorem pay3_at (X : Vec Ideal S4x64x256 .f32) (h : Fin 4) (x : Fin 64) (d : Fin 256) : k0_pay3 X (ix4 0 h x d) = X (ix3 h x d) := by
  pointwise [k0_pay3]

theorem pay4_at (X : Vec Ideal S8x128 .f32) (h : Fin 8) (j : Fin 128) : k0_pay4 X (ix3 0 h j) = X (ix2 h j) := by
  pointwise [k0_pay4]

theorem caseC_outC (c : Dev nD) (t : Fin cfg0.N) (h0 : ¬t.val % 32 = 0) (h1 : t.val % 32 = 31) (h : Fin 4) (x : Fin 64) (d : Fin 256) :
    (outsAt0 m c t.val t.isLt).2.1 (ix4 0 h x d) = (outsAt0 m c t.val t.isLt).2.2.2.1 (ix3 h x d) := by
  rw [outsAt0_C m c t h0 h1]; frame_open
  simp (discharger := first | decide | rfl | (intro a; fin_cases a <;> rfl)) only [↓View.readCov_skip, ↓View.readCov_fill, ↓read_unread_whole]
  frame_out
  rw [pay3_at, View.readCov_eq_canon']
  exact congrArg _ (funext fun a => Fin.ext (by fin_cases a <;> exact (Rect.idx_unit_val _ _ _ _ _).trans (Nat.zero_add _)))

theorem caseC_outM (c : Dev nD) (t : Fin cfg0.N) (h0 : ¬t.val % 32 = 0) (h1 : t.val % 32 = 31) (h : Fin 8) (j : Fin 128) :
    (outsAt0 m c t.val t.isLt).2.2.1 (ix3 0 h j) = (outsAt0 m c t.val t.isLt).2.2.2.2 (ix2 h j) := by
  rw [outsAt0_C m c t h0 h1]; frame_open
  simp (discharger := first | decide | rfl | (intro a; fin_cases a <;> rfl)) only [↓View.readCov_skip, ↓View.readCov_fill, ↓read_unread_whole]
  frame_out
  rw [pay4_at]

end Cert.Ml

end
-- ==== Proof.MlSpec.lean ====
module

public import proofs.«01_k».proof.Proof.MlGate

@[expose] public section

noncomputable section

namespace Cert.Ml

open Idealize.ShloMosaic

/-- The recurrence's operands, by row and column. -/
structure Args where
  q : Fin 32768 → Fin 256 → EReal
  k : Fin 32768 → Fin 256 → EReal
  v : Fin 32768 → Fin 512 → EReal
  mo : Fin 32768 → Fin 512 → EReal
  gt : Fin 8 → Fin 32768 → EReal
  nw : Fin 512 → EReal

/-- Queries, keys and values are real numbers. -/
structure Args.Finite (A : Args) : Prop where
  q : ∀ r c, A.q r c = (((A.q r c).toReal : ℝ) : EReal)
  k : ∀ r c, A.k r c = (((A.k r c).toReal : ℝ) : EReal)
  v : ∀ r c, A.v r c = (((A.v r c).toReal : ℝ) : EReal)

/-- The row of position `n` of sequence `b`. -/
def tok (b : Fin 4) (n : ℕ) : Fin 32768 := ⟨(8192 * b.val + n) % 32768, Nat.mod_lt _ (by decide)⟩

theorem tok_eq (b : Fin 4) (n : ℕ) (r : Fin 32768) (h : r.val = 8192 * b.val + n) : tok b n = r :=
  Fin.ext (by show (8192 * b.val + n) % 32768 = r.val; have := r.isLt; omega)

namespace Args
variable (A : Args) (b h : Fin 4)

/-- Input gates. -/
def i (n : ℕ) : ℝ := capR (A.gt ⟨h.val, by omega⟩ (tok b n))
/-- Log forget gates. -/
def f (n : ℕ) : ℝ := lsR (capR (A.gt ⟨4 + h.val, by omega⟩ (tok b n)))
/-- Queries, keys, values of one head. -/
def qr (n : ℕ) (j : Fin 64) : ℝ := (A.q (tok b n) ⟨64 * h.val + j.val, by omega⟩).toReal
def kr (n : ℕ) (j : Fin 64) : ℝ := (A.k (tok b n) ⟨64 * h.val + j.val, by omega⟩).toReal
def vr (n : ℕ) (d : Fin 128) : ℝ := (A.v (tok b n) ⟨128 * h.val + d.val, by omega⟩).toReal

/-- The running maximum before position `n`. -/
def M (n : ℕ) : ℝ := Rec.M (A.i b h) (A.f b h) n
/-- The matrix state before position `n`. -/
def C (j : Fin 64) (d : Fin 128) (n : ℕ) : ℝ := Rec.St (A.i b h) (A.f b h) (fun n => A.kr b h n j * A.vr b h n d) n
/-- The normalizer before position `n`. -/
def N (j : Fin 64) (n : ℕ) : ℝ := Rec.St (A.i b h) (A.f b h) (fun n => A.kr b h n j) n

/-- The quotient at position `n`. -/
def H (n : ℕ) (d : Fin 128) : EReal :=
  Ideal.div ((∑ j, A.qr b h n j * A.C b h j d (n + 1) : ℝ) : EReal)
    (max (FloatOps.absf (F := Ideal) (φ := .f32) ((∑ j, A.qr b h n j * A.N b h j (n + 1) : ℝ) : EReal))
      (Ideal.exp (0 - ((A.M b h (n + 1) : ℝ) : EReal))))

/-- The output at position `n`. -/
def Y (n : ℕ) (d : Fin 128) : EReal :=
  yOf (A.H b h n) (A.nw ⟨128 * h.val + d.val, by omega⟩) (A.mo (tok b n) ⟨128 * h.val + d.val, by omega⟩) d
end Args

end Cert.Ml

end
-- ==== Proof.MlState.lean ====
module

public import proofs.«01_k».proof.Proof.MlBlock
public import proofs.«01_k».proof.Proof.MlSpec
public import Idealize.ShloMosaic.Lib.Claim

@[expose] public section

set_option maxRecDepth 16384

noncomputable section

namespace Cert.Ml

open Idealize.ShloMosaic Idealize.ShloMosaic.TcCoe Idealize.SL.Sem
open Cert.KernelIdeal Cert.KernelIdeal.Gen

/-- Values with the column of ones, by position. -/
def Args.va (A : Args) (b h : Fin 4) (d : Fin 256) (n : ℕ) : ℝ :=
  if h' : d.val < 128 then A.vr b h n ⟨d.val, h'⟩ else if d.val = 128 then 1 else 0

/-- The state with its normalizer column, before position `n`. -/
def Args.Ca (A : Args) (b h : Fin 4) (j : Fin 64) (d : Fin 256) (n : ℕ) : ℝ :=
  Rec.St (A.i b h) (A.f b h) (fun n => A.kr b h n j * A.va b h d n) n

theorem Args.Ca_lt (A : Args) (b h : Fin 4) (j : Fin 64) (d : Fin 128) (n : ℕ) :
    A.Ca b h j ⟨d.val, by omega⟩ n = A.C b h j d n := by
  unfold Args.Ca Args.C
  congr 1
  funext n
  simp only [Args.va, dif_pos d.isLt]

theorem Args.Ca_one (A : Args) (b h : Fin 4) (j : Fin 64) (n : ℕ) : A.Ca b h j 128 n = A.N b h j n := by
  unfold Args.Ca Args.N
  congr 1
  funext n
  simp only [Args.va]
  rw [dif_neg (by decide), if_pos (by decide), mul_one]

section chunk
variable {A : Args} (hA : A.Finite) {b : Fin 4} {p : ℕ}
  {x0 x1 x2 : Vec Ideal S256x256 .bf16} {x3 : Vec Ideal S256x512 .bf16} {x4 : Vec Ideal S256x512 .f32}
  {x5 : Vec Ideal S8x256 .f32} {x6 : Vec Ideal S1x512 .f32}
  {X : Fin 4 → Fin 64 → Fin 256 → EReal} {M : Fin 4 → EReal}
  (h0 : ∀ (s : Fin 256) c, x0 (ix2 s c) = A.q (tok b (p + s.val)) c)
  (h1 : ∀ (s : Fin 256) c, x1 (ix2 s c) = A.k (tok b (p + s.val)) c)
  (h2 : ∀ (s : Fin 256) c, x2 (ix2 c s) = A.k (tok b (p + s.val)) c)
  (h3 : ∀ (s : Fin 256) c, x3 (ix2 s c) = A.v (tok b (p + s.val)) c)
  (h4 : ∀ (s : Fin 256) c, x4 (ix2 s c) = A.mo (tok b (p + s.val)) c)
  (h5 : ∀ (s : Fin 256) g, x5 (ix2 g s) = A.gt g (tok b (p + s.val)))
  (h6 : ∀ c, x6 (ix2 0 c) = A.nw c)
  (hX : ∀ h j d, X h j d = ((A.Ca b h j d p : ℝ) : EReal))
  (hM : ∀ h, M h = ((A.M b h p : ℝ) : EReal))

include h5 in
theorem rowB_coe (h : Fin 4) (s : Fin 256) : rowB x5 h s = ((Rec.cum (A.f b h) p s.val : ℝ) : EReal) :=
  cumV_at x5 _ (A.f b h) p (fun r => by rw [h5]; rfl) s

include h5 in
theorem rowI_coe (h : Fin 4) (s : Fin 256) : rowI x5 h s = ((A.i b h (p + s.val) : ℝ) : EReal) := by
  rw [rowI, gate_at, h5]; rfl

include h5 hM in
theorem nextM_coe (h : Fin 4) : nextM x5 M h = ((A.M b h (p + 256) : ℝ) : EReal) :=
  Rec.ml_coe (rowB_coe h5 h) (rowI_coe h5 h) (hM h) 255 (by decide)

include hA h3 in
theorem rowV_coe (h : Fin 4) (s d : Fin 256) : rowV x3 h s d = ((A.va b h d (p + s.val) : ℝ) : EReal) := by
  unfold rowV vAug Args.va
  by_cases hd : d.val < 128
  · rw [dif_pos hd, dif_pos hd]; exact (h3 s _).trans ((hA.v _ _).trans rfl)
  · rw [dif_neg hd, dif_neg hd]
    split <;> rfl

include hA h2 h3 h5 hX hM in
theorem nextC_coe (h : Fin 4) (j : Fin 64) (d : Fin 256) : nextC x2 x3 x5 X M h j d = ((A.Ca b h j d (p + 256) : ℝ) : EReal) :=
  Rec.st_coe (rowB_coe h5 h) (rowI_coe h5 h) (hM h) 255 (by decide) _ _ _ (fun n => A.kr b h n j) (fun n => A.va b h d n)
    (fun s => (h2 s _).trans ((hA.k _ _).trans rfl)) (fun s => rowV_coe hA h3 h s d) (hX h j d)

include hA h0 h1 h3 h5 hX hM in
theorem rowH_coe (h : Fin 4) (r : Fin 256) (d : Fin 128) : rowH x0 x1 x3 x5 X M h r d = A.H b h (p + r.val) d := by
  unfold rowH Args.H
  rw [Rec.num_coe (rowB_coe h5 h) (rowI_coe h5 h) (hM h) r _ _ _ _ (fun j => A.qr b h (p + r.val) j) (fun n j => A.kr b h n j)
      (fun n => A.vr b h n d) (fun j => by rw [h0, hA.q]; rfl) (fun s j => by rw [h1, hA.k]; rfl) (fun s => by rw [h3, hA.v]; rfl)
      (fun j => by rw [hX, Args.Ca_lt]; rfl),
    Rec.den_coe (rowB_coe h5 h) (rowI_coe h5 h) (hM h) r _ _ _ (fun j => A.qr b h (p + r.val) j) (fun n j => A.kr b h n j)
      (fun j => by rw [h0, hA.q]; rfl) (fun s j => by rw [h1, hA.k]; rfl) (fun j => by rw [hX, Args.Ca_one]; rfl),
    Rec.mt_coe (rowB_coe h5 h) (rowI_coe h5 h) (hM h)]
  rfl

include hA h0 h1 h3 h4 h5 h6 hX hM in
theorem rowY_coe (h : Fin 4) (r : Fin 256) (d : Fin 128) : rowY x0 x1 x3 x4 x5 x6 X M h r d = A.Y b h (p + r.val) d := by
  unfold rowY Args.Y
  rw [h6, h4]
  congr 1
  funext d
  exact rowH_coe hA h0 h1 h3 h5 hX hM h r d
end chunk

variable (m : (ℓ : Loc nD τ sig) → Buf (Elt Ideal) ℓ)

/-- The kernel's arguments on a device. -/
def argsK (c : Dev nD) : Args where
  q r j := (show FVec Ideal S32768x256 .bf16 from m ((c : Thread nD τ).loc main_arg0)) (ix2 r j)
  k r j := (show FVec Ideal S32768x256 .bf16 from m ((c : Thread nD τ).loc main_arg1)) (ix2 r j)
  v r j := (show FVec Ideal S32768x512 .bf16 from m ((c : Thread nD τ).loc main_arg2)) (ix2 r j)
  mo r j := (show FVec Ideal S32768x512 .f32 from m ((c : Thread nD τ).loc main_arg3)) (ix2 r j)
  gt g r := (show FVec Ideal S8x32768 .f32 from m ((c : Thread nD τ).loc main_arg4)) (ix2 g r)
  nw j := (show FVec Ideal S512 .f32 from m ((c : Thread nD τ).loc main_arg5)) (ix1 j)

theorem idx : ∀ t : Fin cfg0.N, win0_0.index t = ![t.val, 0] ∧ win0_1.index t = ![t.val, 0] ∧ win0_2.index t = ![0, t.val] ∧ win0_3.index t = ![t.val, 0] ∧ win0_4.index t = ![t.val, 0] ∧ win0_5.index t = ![0, t.val] ∧ win0_6.index t = ![0, 0] ∧ win0_7.index t = ![t.val, 0] ∧ win0_8.index t = ![t.val / 32, 0, 0, 0] ∧ win0_9.index t = ![t.val / 32, 0, 0] ∧ t.val < 128 :=
  (by decide +kernel : ∀ t : Fin grid0.N, _)

section reads
variable (c : Dev nD) (t : Fin cfg0.N) (b : Fin 4) (hb : b.val = t.val / 32)
include hb

theorem tok_at (s : Fin 256) (h : 256 * t.val + s.val < 32768) : tok b (256 * (t.val % 32) + s.val) = ⟨256 * t.val + s.val, h⟩ :=
  tok_eq _ _ _ (by show 256 * t.val + s.val = _; rw [hb]; omega)

theorem blk0 (s : Fin 256) (j) : iblk m c 0 t (ix2 s j) = (argsK m c).q (tok b (256 * (t.val % 32) + s.val)) j := by
  have ht := (idx t).2.2.2.2.2.2.2.2.2.2
  rw [tok_at t b hb s (by omega)]
  simp only [argsK]
  blk_ext [iblk, V, idx t]

theorem blk1 (s : Fin 256) (j) : iblk m c 1 t (ix2 s j) = (argsK m c).k (tok b (256 * (t.val % 32) + s.val)) j := by
  have ht := (idx t).2.2.2.2.2.2.2.2.2.2
  rw [tok_at t b hb s (by omega)]
  simp only [argsK]
  blk_ext [iblk, V, idx t]

theorem blk2 (s : Fin 256) (j) : iblk m c 2 t (ix2 j s) = (argsK m c).k (tok b (256 * (t.val % 32) + s.val)) j := by
  have ht := (idx t).2.2.2.2.2.2.2.2.2.2
  rw [tok_at t b hb s (by omega)]
  have hi : ((cfg0.win 2).blk t).view.emb (ix2 j s) = ix2 j ⟨256 * t.val + s.val, by omega⟩ := by blk_ext [idx t]
  show StableHlo.after hostOps0 (fun b => m (c, b)) (Proc.devRef .tc main_v0) (((cfg0.win 2).blk t).view.emb (ix2 j s)) = _
  rw [hi]
  after_results
  simp only [argsK]
  pointwise []

theorem blk3 (s : Fin 256) (j) : iblk m c 3 t (ix2 s j) = (argsK m c).v (tok b (256 * (t.val % 32) + s.val)) j := by
  have ht := (idx t).2.2.2.2.2.2.2.2.2.2
  rw [tok_at t b hb s (by omega)]
  simp only [argsK]
  blk_ext [iblk, V, idx t]

theorem blk4 (s : Fin 256) (j) : iblk m c 4 t (ix2 s j) = (argsK m c).mo (tok b (256 * (t.val % 32) + s.val)) j := by
  have ht := (idx t).2.2.2.2.2.2.2.2.2.2
  rw [tok_at t b hb s (by omega)]
  simp only [argsK]
  blk_ext [iblk, V, idx t]

theorem blk5 (s : Fin 256) (g) : iblk m c 5 t (ix2 g s) = (argsK m c).gt g (tok b (256 * (t.val % 32) + s.val)) := by
  have ht := (idx t).2.2.2.2.2.2.2.2.2.2
  rw [tok_at t b hb s (by omega)]
  simp only [argsK]
  blk_ext [iblk, V, idx t]

omit hb in
theorem blk6 (j) : iblk m c 6 t (ix2 0 j) = (argsK m c).nw j := by
  have hi : ((cfg0.win 6).blk t).view.emb (ix2 0 j) = ix2 0 j := by blk_ext [idx t]
  show StableHlo.after hostOps0 (fun b => m (c, b)) (Proc.devRef .tc main_v1) (((cfg0.win 6).blk t).view.emb (ix2 0 j)) = _
  rw [hi]
  after_results
  simp only [argsK]
  pointwise []
end reads

end Cert.Ml

end
-- ==== Proof.MlArr.lean ====
module

public import proofs.«01_k».proof.Proof.MlState

@[expose] public section

set_option maxRecDepth 16384

noncomputable section

namespace Cert.Ml

open Idealize.ShloMosaic Idealize.ShloMosaic.TcCoe Idealize.SL.Sem
open Idealize.ShloMosaic.Pipeline (Dat)
open Cert.KernelIdeal Cert.KernelIdeal.Gen

theorem stX_zero (h : Fin 4) (x : Fin 64) (d : Fin 256) : stX (k0_pay5 (F := Ideal)) h x d = 0 := by
  pointwise [stX, k0_pay5]

theorem stM_zero (h : Fin 4) : stM (k0_pay6 (F := Ideal)) h = 0 := by
  pointwise [stM, k0_pay6]

variable (m : (ℓ : Loc nD τ sig) → Buf (Elt Ideal) ℓ) (c : Dev nD)

/-- The state after point `n` in closed form. -/
def After (n : ℕ) (hn : n < cfg0.N) : Prop :=
  ∀ b : Fin 4, b.val = n / 32 →
    (∀ h j d, stX (outsAt0 m c n hn).2.2.2.1 h j d = (((argsK m c).Ca b h j d (256 * (n % 32) + 256) : ℝ) : EReal)) ∧
    (∀ h, stM (outsAt0 m c n hn).2.2.2.2 h = (((argsK m c).M b h (256 * (n % 32) + 256) : ℝ) : EReal))

theorem after_step (hA : (argsK m c).Finite) (t : Fin cfg0.N)
    (ih : ¬t.val % 32 = 0 → After m c (t.val - 1) (lt_of_le_of_lt (Nat.sub_le _ _) t.isLt)) :
    After m c t.val t.isLt ∧ ∀ b : Fin 4, b.val = t.val / 32 → ∀ y, (outsAt0 m c t.val t.isLt).1 y
      = (argsK m c).Y b ⟨(y 1).val / 128, Nat.div_lt_of_lt_mul (y 1).isLt⟩ (256 * (t.val % 32) + (y 0).val) ⟨(y 1).val % 128, Nat.mod_lt _ (by decide)⟩ := by
  by_cases h0 : t.val % 32 = 0
  · have h1 : ¬t.val % 32 = 31 := by omega
    have hX : ∀ (b h : Fin 4) j d, stX (k0_pay5 (F := Ideal)) h j d = (((argsK m c).Ca b h j d (256 * (t.val % 32)) : ℝ) : EReal) :=
      fun b h j d => by rw [stX_zero, h0]; rfl
    have hM : ∀ (b h : Fin 4), stM (k0_pay6 (F := Ideal)) h = (((argsK m c).M b h (256 * (t.val % 32)) : ℝ) : EReal) :=
      fun b h => by rw [stM_zero, h0]; rfl
    refine ⟨fun b hb => ⟨fun h j d => (caseA_C m c t h0 h1 (ix3 h j d)).trans ?_, fun h => (caseA_M m c t h0 h1 h 0).trans ?_⟩, fun b hb y => (caseA_Y m c t h0 h1 y).trans ?_⟩
    · exact nextC_coe hA (blk2 m c t b hb) (blk3 m c t b hb) (blk5 m c t b hb) (hX b) (hM b) h j d
    · exact nextM_coe (blk5 m c t b hb) (hM b) h
    · exact rowY_coe hA (blk0 m c t b hb) (blk1 m c t b hb) (blk3 m c t b hb) (blk4 m c t b hb) (blk5 m c t b hb) (blk6 m c t) (hX b) (hM b) _ _ _
  · have e : 256 * ((t.val - 1) % 32) + 256 = 256 * (t.val % 32) := by omega
    have hX : ∀ b : Fin 4, b.val = t.val / 32 → ∀ (h : Fin 4) j d, stX (outsAt0 m c (t.val - 1) (lt_of_le_of_lt (Nat.sub_le _ _) t.isLt)).2.2.2.1 h j d = (((argsK m c).Ca b h j d (256 * (t.val % 32)) : ℝ) : EReal) :=
      fun b hb h j d => by rw [← e]; exact (ih h0 b (by omega)).1 h j d
    have hM : ∀ b : Fin 4, b.val = t.val / 32 → ∀ (h : Fin 4), stM (outsAt0 m c (t.val - 1) (lt_of_le_of_lt (Nat.sub_le _ _) t.isLt)).2.2.2.2 h = (((argsK m c).M b h (256 * (t.val % 32)) : ℝ) : EReal) :=
      fun b hb h => by rw [← e]; exact (ih h0 b (by omega)).2 h
    by_cases h1 : t.val % 32 = 31
    · refine ⟨fun b hb => ⟨fun h j d => (caseC_C m c t h0 h1 (ix3 h j d)).trans ?_, fun h => (caseC_M m c t h0 h1 h 0).trans ?_⟩, fun b hb y => (caseC_Y m c t h0 h1 y).trans ?_⟩
      · exact nextC_coe hA (blk2 m c t b hb) (blk3 m c t b hb) (blk5 m c t b hb) (hX b hb) (hM b hb) h j d
      · exact nextM_coe (blk5 m c t b hb) (hM b hb) h
      · exact rowY_coe hA (blk0 m c t b hb) (blk1 m c t b hb) (blk3 m c t b hb) (blk4 m c t b hb) (blk5 m c t b hb) (blk6 m c t) (hX b hb) (hM b hb) _ _ _
    · refine ⟨fun b hb => ⟨fun h j d => (caseB_C m c t h0 h1 (ix3 h j d)).trans ?_, fun h => (caseB_M m c t h0 h1 h 0).trans ?_⟩, fun b hb y => (caseB_Y m c t h0 h1 y).trans ?_⟩
      · exact nextC_coe hA (blk2 m c t b hb) (blk3 m c t b hb) (blk5 m c t b hb) (hX b hb) (hM b hb) h j d
      · exact nextM_coe (blk5 m c t b hb) (hM b hb) h
      · exact rowY_coe hA (blk0 m c t b hb) (blk1 m c t b hb) (blk3 m c t b hb) (blk4 m c t b hb) (blk5 m c t b hb) (blk6 m c t) (hX b hb) (hM b hb) _ _ _

theorem after (hA : (argsK m c).Finite) : ∀ n hn, After m c n hn := by
  intro n
  induction n with
  | zero => exact fun hn => (after_step m c hA ⟨0, hn⟩ (fun h => absurd rfl h)).1
  | succ n ih => exact fun hn => (after_step m c hA ⟨n + 1, hn⟩ (fun _ => ih _)).1

theorem rowAt (hA : (argsK m c).Finite) (t : Fin cfg0.N) (b : Fin 4) (hb : b.val = t.val / 32) (y) : (outsAt0 m c t.val t.isLt).1 y
      = (argsK m c).Y b ⟨(y 1).val / 128, Nat.div_lt_of_lt_mul (y 1).isLt⟩ (256 * (t.val % 32) + (y 0).val) ⟨(y 1).val % 128, Nat.mod_lt _ (by decide)⟩ :=
  (after_step m c hA t (fun _ => after m c hA _ _)).2 b hb y

/-- The last point of sequence `b`. -/
def lastPt (b : Fin 4) : Fin cfg0.N := ⟨32 * b.val + 31, by have : cfg0.N = 128 := (by decide +kernel : grid0.N = 128); omega⟩

/-- The output rows. -/
theorem arrY (hA : (argsK m c).Finite) (b : Fin 4) (n : Fin 8192) (h : Fin 4) (d : Fin 128) :
    (dats m 0 c).arrAt 7 (cfgs 0).N (ix2 ⟨8192 * b.val + n.val, by omega⟩ ⟨128 * h.val + d.val, by omega⟩) = (argsK m c).Y b h n.val d := by
  have hN : cfg0.N = 128 := (by decide +kernel : grid0.N = 128)
  let t : Fin cfg0.N := ⟨32 * b.val + n.val / 256, by omega⟩
  have ht : t.val = 32 * b.val + n.val / 256 := rfl
  have e : (ix2 ⟨8192 * b.val + n.val, by omega⟩ ⟨128 * h.val + d.val, by omega⟩ : S32768x512.Idx) = ((cfg0.win 7).blk t).view.emb (ix2 ⟨n.val % 256, by omega⟩ ⟨128 * h.val + d.val, by omega⟩) := by
    blk_ext [idx t]
  rw [e, Dat.arrAt_emb_eq_flushed _ 7 (Pipeline.Window.hdisj_of_index_inj _ (by decide +kernel)) t (flush0_7 t)]
  refine (congrFun (after0_7 m c t) (ix2 ⟨n.val % 256, by omega⟩ ⟨128 * h.val + d.val, by omega⟩)).trans ((rowAt m c hA t b (by omega) _).trans ?_)
  congr 1
  · exact Fin.ext (by show (128 * h.val + d.val) / 128 = h.val; omega)
  · show 256 * (t.val % 32) + n.val % 256 = n.val; omega
  · exact Fin.ext (by show (128 * h.val + d.val) % 128 = d.val; omega)

/-- The final states. -/
theorem arrC (hA : (argsK m c).Finite) (b h : Fin 4) (j : Fin 64) (d : Fin 256) :
    (dats m 0 c).arrAt 8 (cfgs 0).N (ix4 b h j d) = (((argsK m c).Ca b h j d 8192 : ℝ) : EReal) := by
  have ht : (lastPt b).val = 32 * b.val + 31 := rfl
  have e : (ix4 b h j d : S4x4x64x256.Idx) = ((cfg0.win 8).blk (lastPt b)).view.emb (ix4 0 h j d) := by
    blk_ext [idx (lastPt b)]
  rw [e, Dat.arrAt_emb_eq_flushed _ 8 (Pipeline.Window.hdisj_of_index_inj _ (by decide +kernel)) (lastPt b) ((flush0_8 _).mpr (by omega))]
  refine (congrFun (after0_8 m c (lastPt b)) (ix4 0 h j d)).trans <| (caseC_outC m c (lastPt b) (by omega) (by omega) h j d).trans (((after m c hA _ _) b (by omega)).1 h j d |>.trans ?_)
  rw [show 256 * ((lastPt b).val % 32) + 256 = 8192 by omega]

/-- The final maxima. -/
theorem arrM (hA : (argsK m c).Finite) (b h : Fin 4) :
    (dats m 0 c).arrAt 9 (cfgs 0).N (ix3 b ⟨h.val, by omega⟩ 0) = (((argsK m c).M b h 8192 : ℝ) : EReal) := by
  have ht : (lastPt b).val = 32 * b.val + 31 := rfl
  have e : (ix3 b ⟨h.val, by omega⟩ 0 : S4x8x128.Idx) = ((cfg0.win 9).blk (lastPt b)).view.emb (ix3 0 ⟨h.val, by omega⟩ 0) := by
    blk_ext [idx (lastPt b)]
  rw [e, Dat.arrAt_emb_eq_flushed _ 9 (Pipeline.Window.hdisj_of_index_inj _ (by decide +kernel)) (lastPt b) ((flush0_9 _).mpr (by omega))]
  refine (congrFun (after0_9 m c (lastPt b)) (ix3 0 ⟨h.val, by omega⟩ 0)).trans <| (caseC_outM m c (lastPt b) (by omega) (by omega) _ 0).trans (((after m c hA _ _) b (by omega)).2 h |>.trans ?_)
  rw [show 256 * ((lastPt b).val % 32) + 256 = 8192 by omega]

end Cert.Ml

end
-- ==== Proof.MlEntry.lean ====
module

public import proofs.«01_k».proof.Proof.Gen.ReferenceIdeal.Run
public import proofs.«01_k».proof.Proof.MlSpec

@[expose] public section

set_option maxRecDepth 16384

noncomputable section

namespace Cert.Ml.Ref

open Idealize.ShloMosaic Idealize.ShloMosaic.TcCoe Idealize.SL.Sem
open Cert.ReferenceIdeal Cert.ReferenceIdeal.Gen Cert.ReferenceIdeal.Value
open Idealize.ShloMosaic.StableHlo

variable (m : (ℓ : Loc nD τ sig) → Buf (Elt Ideal) ℓ)

/-- The reference's arguments on a device. -/
def argsR (c : Dev nD) : Args where
  q r j := (show FVec Ideal S32768x256 .bf16 from m ((c : Thread nD τ).loc main_arg0)) (ix2 r j)
  k r j := (show FVec Ideal S32768x256 .bf16 from m ((c : Thread nD τ).loc main_arg1)) (ix2 r j)
  v r j := (show FVec Ideal S32768x512 .bf16 from m ((c : Thread nD τ).loc main_arg2)) (ix2 r j)
  mo r j := (show FVec Ideal S32768x512 .f32 from m ((c : Thread nD τ).loc main_arg3)) (ix2 r j)
  gt g r := (show FVec Ideal S8x32768 .f32 from m ((c : Thread nD τ).loc main_arg4)) (ix2 g r)
  nw j := (show FVec Ideal S512 .f32 from m ((c : Thread nD τ).loc main_arg5)) (ix1 j)

/-! The operands cut into chunks, and the gates. -/
def qkV (x : FVec Ideal S32768x256 .bf16) : FVec Ideal S128x4x4x64x64 .f32 :=
  transpose S128x4x4x64x64 [0, 1, 3, 2, 4] (transpose S128x4x64x4x64 [1, 0, 2, 3, 4] (shapeCast S4x128x64x4x64 (shapeCast S4x8192x4x64
    (extf .f32 x bitsLt_bf16_f32) shapeCasts_S32768x256_S4x8192x4x64) shapeCasts_S4x8192x4x64_S4x128x64x4x64)
    transposes_S4x128x64x4x64_S128x4x64x4x64_1_0_2_3_4) transposes_S128x4x64x4x64_S128x4x4x64x64_0_1_3_2_4

def vvV (x : FVec Ideal S32768x512 .bf16) : FVec Ideal S128x4x4x64x128 .f32 :=
  transpose S128x4x4x64x128 [0, 1, 3, 2, 4] (transpose S128x4x64x4x128 [1, 0, 2, 3, 4] (shapeCast S4x128x64x4x128 (shapeCast S4x8192x4x128
    (extf .f32 x bitsLt_bf16_f32) shapeCasts_S32768x512_S4x8192x4x128) shapeCasts_S4x8192x4x128_S4x128x64x4x128)
    transposes_S4x128x64x4x128_S128x4x64x4x128_1_0_2_3_4) transposes_S128x4x64x4x128_S128x4x4x64x128_0_1_3_2_4

def gtV (x : FVec Ideal S4x8192x4 .f32) : FVec Ideal S128x4x4x64 .f32 :=
  transpose S128x4x4x64 [0, 1, 3, 2] (transpose S128x4x64x4 [1, 0, 2, 3] (shapeCast S4x128x64x4 x shapeCasts_S4x8192x4_S4x128x64x4)
    transposes_S4x128x64x4_S128x4x64x4_1_0_2_3) transposes_S128x4x64x4_S128x4x4x64_0_1_3_2

def capV (x : FVec Ideal S4x8192x4 .f32) : FVec Ideal S4x8192x4 .f32 :=
  have k : FVec Ideal S4x8192x4 .f32 := broadcastInDim S4x8192x4 ![] bcast_S_S4x8192x4 (constant S_ .f32 0x41700000#32)
  mulf k (Host.tanh (Host.divf x k))

def inV (x : FVec Ideal S8x32768 .f32) : FVec Ideal S4x8192x4 .f32 :=
  capV (shapeCast S4x8192x4 (transpose S32768x4 [1, 0] (extractStridedSlice S4x32768 ![0, 0] x slices_S8x32768_S4x32768_0_0) transposes_S4x32768_S32768x4_1_0) shapeCasts_S32768x4_S4x8192x4)

def fgV (x : FVec Ideal S8x32768 .f32) : FVec Ideal S4x8192x4 .f32 :=
  capV (shapeCast S4x8192x4 (transpose S32768x4 [1, 0] (extractStridedSlice S4x32768 ![4, 0] x slices_S8x32768_S4x32768_4_0) transposes_S4x32768_S32768x4_1_0) shapeCasts_S32768x4_S4x8192x4)

/-- The logarithm of the logistic as the maximum and a correction. -/
def lsgV (x : FVec Ideal S4x8192x4 .f32) : FVec Ideal S4x8192x4 .f32 :=
  have z : FVec Ideal S4x8192x4 .f32 := broadcastInDim S4x8192x4 ![] bcast_S_S4x8192x4 (constant S_ .f32 0x00000000#32)
  have y : FVec Ideal S4x8192x4 .f32 := Host.negf x
  have d : FVec Ideal S4x8192x4 .f32 := subf y z
  Host.negf (select (cmpf .une d d) (addf y z) (addf (maximumf y z) (Host.log1p (Host.exp (Host.negf (Host.absf d))))))

def trilV : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- What the loop starts from. -/
abbrev ent (c : Dev nD) : Valuation τ sig (Elt Ideal) := entryContents preI m c

variable (c : Dev nD) (t : Fin 128) (b h : Fin 4) (r : Fin 64)

theorem tokR (hn : b.val * 8192 + t.val * 64 + r.val < 32768) : tok b (64 * t.val + r.val) = ⟨b.val * 8192 + t.val * 64 + r.val, hn⟩ :=
  tok_eq _ _ _ (by show b.val * 8192 + t.val * 64 + r.val = _; omega)

theorem raw0 : ent m c (Proc.devRef .tc main_v44_0) = qkV (m ((c.tc : Thread nD τ).loc main_arg0)) := by
  simp only [ent, entryContents, afterL_cons, afterL_nil]
  after_reads_simp
  rfl

theorem raw1 : ent m c (Proc.devRef .tc main_v44_1) = qkV (m ((c.tc : Thread nD τ).loc main_arg1)) := by
  simp only [ent, entryContents, afterL_cons, afterL_nil]
  after_reads_simp
  rfl

theorem raw2 : ent m c (Proc.devRef .tc main_v44_2) = vvV (m ((c.tc : Thread nD τ).loc main_arg2)) := by
  simp only [ent, entryContents, afterL_cons, afterL_nil]
  after_reads_simp
  rfl

theorem raw3 : ent m c (Proc.devRef .tc main_v44_3) = gtV (inV (m ((c.tc : Thread nD τ).loc main_arg4))) := by
  simp only [ent, entryContents, afterL_cons, afterL_nil]
  after_reads_simp
  rfl

theorem raw4 : ent m c (Proc.devRef .tc main_v44_4) = gtV (lsgV (fgV (m ((c.tc : Thread nD τ).loc main_arg4)))) := by
  simp only [ent, entryContents, afterL_cons, afterL_nil]
  after_reads_simp
  rfl

theorem raw5 : ent m c (Proc.devRef .tc main_v44_5) = trilV := by
  simp only [ent, entryContents, afterL_cons, afterL_nil]
  after_reads_simp
  rfl

theorem raw7 : ent m c (Proc.devRef .tc main_v44_7) = broadcastInDim S4x4x64x128 ![] bcast_S_S4x4x64x128 (constant (F := Ideal) S_ .f32 0x00000000#32) := by
  simp only [ent, entryContents, afterL_cons, afterL_nil]
  after_reads_simp
  rfl

theorem raw8 : ent m c (Proc.devRef .tc main_v44_8) = broadcastInDim S4x4x64 ![] bcast_S_S4x4x64 (constant (F := Ideal) S_ .f32 0x00000000#32) := by
  simp only [ent, entryContents, afterL_cons, afterL_nil]
  after_reads_simp
  rfl

theorem raw9 : ent m c (Proc.devRef .tc main_v44_9) = broadcastInDim S4x4 ![] bcast_S_S4x4 (constant (F := Ideal) S_ .f32 0x00000000#32) := by
  simp only [ent, entryContents, afterL_cons, afterL_nil]
  after_reads_simp
  rfl

theorem qkV_at (x : FVec Ideal S32768x256 .bf16) (j : Fin 64) :
    qkV x (ix5 t b h r j) = x (ix2 (tok b (64 * t.val + r.val)) ⟨64 * h.val + j.val, by omega⟩) := by
  rw [tokR t b r (by omega), show (⟨64 * h.val + j.val, by omega⟩ : Fin 256) = ⟨h.val * 64 + j.val, by omega⟩ from Fin.ext (by show 64 * h.val + j.val = h.val * 64 + j.val; omega)]
  pointwise [qkV]

theorem vvV_at (x : FVec Ideal S32768x512 .bf16) (j : Fin 128) :
    vvV x (ix5 t b h r j) = x (ix2 (tok b (64 * t.val + r.val)) ⟨128 * h.val + j.val, by omega⟩) := by
  rw [tokR t b r (by omega), show (⟨128 * h.val + j.val, by omega⟩ : Fin 512) = ⟨h.val * 128 + j.val, by omega⟩ from Fin.ext (by show 128 * h.val + j.val = h.val * 128 + j.val; omega)]
  pointwise [vvV]

theorem gtV_at (x : FVec Ideal S4x8192x4 .f32) : gtV x (ix4 t b h r) = x (ix3 b ⟨t.val * 64 + r.val, by omega⟩ h) := by
  pointwise [gtV]

theorem inV_at (x : FVec Ideal S8x32768 .f32) (n : Fin 8192) :
    inV x (ix3 b n h) = capE (x (ix2 ⟨h.val, by omega⟩ (tok b n.val))) := by
  rw [tok_eq b n.val ⟨b.val * 8192 + n.val, by omega⟩ (by show b.val * 8192 + n.val = _; omega)]
  pointwise [inV, capV, capE]

theorem fgV_at (x : FVec Ideal S8x32768 .f32) (n : Fin 8192) :
    fgV x (ix3 b n h) = capE (x (ix2 ⟨4 + h.val, by omega⟩ (tok b n.val))) := by
  rw [tok_eq b n.val ⟨b.val * 8192 + n.val, by omega⟩ (by show b.val * 8192 + n.val = _; omega)]
  pointwise [fgV, capV, capE]

theorem lsgV_at (x : FVec Ideal S4x8192x4 .f32) (i) (g : ℝ) (hx : x i = ((g : ℝ) : EReal)) : lsgV x i = ((lsR g : ℝ) : EReal) := by
  pointwise [lsgV, hx]
  rw [if_neg (not_not.mpr rfl), ← EReal.coe_neg, coe_absf, ← EReal.coe_neg, log1p_exp, ← EReal.coe_zero,
    ← EReal.coe_strictMono.monotone.map_max, ← EReal.coe_add, ← EReal.coe_neg, lsR, abs_neg]
  congr 1
  rcases le_total g 0 with h | h
  · rw [max_eq_left (by linarith), min_eq_left h]; ring
  · rw [max_eq_right (by linarith), min_eq_right h]; ring

theorem trilV_at (r s : Fin 64) (x y : EReal) : Scalar.select (trilV (ix2 r s)) x y = if s ≤ r then x else y := by
  pointwise [trilV]
  rw [show IntOp.addi (BitVec.ofNat 32 r.val) 0#32 = BitVec.ofNat 32 r.val from BitVec.add_zero _, select_ge _ _ (by omega) (by omega)]
  by_cases h : s ≤ r
  · rw [if_pos h, if_pos (show s.val ≤ r.val from h)]; rfl
  · rw [if_neg h, if_neg (show ¬s.val ≤ r.val from h)]; rfl

end Cert.Ml.Ref

end
-- ==== Proof.MlStep.lean ====
module

public import proofs.«01_k».proof.Proof.MlEntry
public import Idealize.ShloMosaic.Lib.DynamicIndex

@[expose] public section

set_option maxRecDepth 16384

noncomputable section

namespace Cert.Ml.Ref

open Idealize.ShloMosaic Idealize.ShloMosaic.TcCoe Idealize.SL.Sem
open Cert.ReferenceIdeal Cert.ReferenceIdeal.Gen Cert.ReferenceIdeal.Value
open Idealize.ShloMosaic.StableHlo

/-! One trip of the loop: its vectors as functions of the vectors they are made of. -/

def dV (b : FVec Ideal S4x4x64 .f32) (i : FVec Ideal S4x4x64 .f32) (msk : IVec S64x64 1) : FVec Ideal S4x4x64x64 .f32 :=
  select (broadcastInDim S4x4x64x64 ![2, 3] bcast_S64x64_S4x4x64x64_2_3 msk) (addf (subf (broadcastInDim S4x4x64x64 ![0, 1, 2, 3] bcast_S4x4x64x1_S4x4x64x64_0_1_2_3 (broadcastInDim S4x4x64x1 ![0, 1, 2] bcast_S4x4x64_S4x4x64x1_0_1_2 b)) (broadcastInDim S4x4x64x64 ![0, 1, 2, 3] bcast_S4x4x1x64_S4x4x64x64_0_1_2_3 (broadcastInDim S4x4x1x64 ![0, 1, 3] bcast_S4x4x64_S4x4x1x64_0_1_3 b))) (broadcastInDim S4x4x64x64 ![0, 1, 2, 3] bcast_S4x4x1x64_S4x4x64x64_0_1_2_3 (broadcastInDim S4x4x1x64 ![0, 1, 3] bcast_S4x4x64_S4x4x1x64_0_1_3 i))) (broadcastInDim S4x4x64x64 ![] bcast_S_S4x4x64x64 (id (constant S_ .f32 0xFF800000#32)))

def uV (b : FVec Ideal S4x4x64 .f32) (M : FVec Ideal S4x4 .f32) : FVec Ideal S4x4x64 .f32 :=
  addf b (broadcastInDim S4x4x64 ![0, 1, 2] bcast_S4x4x1_S4x4x64_0_1_2 (broadcastInDim S4x4x1 ![0, 1] bcast_S4x4_S4x4x1_0_1 M))

def mtV (u : FVec Ideal S4x4x64 .f32) (d : FVec Ideal S4x4x64x64 .f32) : FVec Ideal S4x4x64 .f32 :=
  maximumf u (Host.reduce FloatOps.maximumf d (constant S_ .f32 0xFF800000#32) reducesTo_S4x4x64x64_S4x4x64_d3 h_S_)

def wV (q : FVec Ideal S4x4x64x64 .f32) (k : FVec Ideal S4x4x64x64 .f32) (d : FVec Ideal S4x4x64x64 .f32) (mt : FVec Ideal S4x4x64 .f32) : FVec Ideal S4x4x64x64 .f32 :=
  mulf (Host.dotGeneral dot_S4x4x64x64_S4x4x64x64_S4x4x64x64_3_3_2_2_01_01 none q k) (Host.exp (subf d (broadcastInDim S4x4x64x64 ![0, 1, 2, 3] bcast_S4x4x64x1_S4x4x64x64_0_1_2_3 (broadcastInDim S4x4x64x1 ![0, 1, 2] bcast_S4x4x64_S4x4x64x1_0_1_2 mt))))

def aV (u : FVec Ideal S4x4x64 .f32) (mt : FVec Ideal S4x4x64 .f32) : FVec Ideal S4x4x64 .f32 :=
  Host.exp (subf u mt)

def bTV (b : FVec Ideal S4x4x64 .f32) : FVec Ideal S4x4 .f32 :=
  shapeCast S4x4 (extractStridedSlice S4x4x1 ![0, 0, 63] b slices_S4x4x64_S4x4x1_0_0_63) shapeCasts_S4x4x1_S4x4

def gV (bT : FVec Ideal S4x4 .f32) (b : FVec Ideal S4x4x64 .f32) (i : FVec Ideal S4x4x64 .f32) : FVec Ideal S4x4x64 .f32 :=
  addf (subf (broadcastInDim S4x4x64 ![0, 1, 2] bcast_S4x4x1_S4x4x64_0_1_2 (broadcastInDim S4x4x1 ![0, 1] bcast_S4x4_S4x4x1_0_1 bT)) b) i

def mlV (bT : FVec Ideal S4x4 .f32) (g : FVec Ideal S4x4x64 .f32) (M : FVec Ideal S4x4 .f32) : FVec Ideal S4x4 .f32 :=
  maximumf (addf bT M) (Host.reduce FloatOps.maximumf g (constant S_ .f32 0xFF800000#32) reducesTo_S4x4x64_S4x4_d2 h_S_)

def aiV (g : FVec Ideal S4x4x64 .f32) (ml : FVec Ideal S4x4 .f32) : FVec Ideal S4x4x64 .f32 :=
  Host.exp (subf g (broadcastInDim S4x4x64 ![0, 1, 2] bcast_S4x4x1_S4x4x64_0_1_2 (broadcastInDim S4x4x1 ![0, 1] bcast_S4x4_S4x4x1_0_1 ml)))

def scV (bT : FVec Ideal S4x4 .f32) (ml : FVec Ideal S4x4 .f32) (M : FVec Ideal S4x4 .f32) : FVec Ideal S4x4 .f32 :=
  Host.exp (subf (addf bT M) ml)

def nextCV (sc : FVec Ideal S4x4 .f32) (ai : FVec Ideal S4x4x64 .f32) (k : FVec Ideal S4x4x64x64 .f32) (v : FVec Ideal S4x4x64x128 .f32) (C : FVec Ideal S4x4x64x128 .f32) : FVec Ideal S4x4x64x128 .f32 :=
  (addf (mulf (broadcastInDim S4x4x64x128 ![0, 1, 2, 3] bcast_S4x4x1x1_S4x4x64x128_0_1_2_3 (broadcastInDim S4x4x1x1 ![0, 1] bcast_S4x4_S4x4x1x1_0_1 sc)) C) (Host.dotGeneral dot_S4x4x64x64_S4x4x64x128_S4x4x64x128_2_2_3_3_01_01 none (mulf (broadcastInDim S4x4x64x64 ![0, 1, 2, 3] bcast_S4x4x64x1_S4x4x64x64_0_1_2_3 (broadcastInDim S4x4x64x1 ![0, 1, 2] bcast_S4x4x64_S4x4x64x1_0_1_2 ai)) k) v))

def nextNV (sc : FVec Ideal S4x4 .f32) (ai : FVec Ideal S4x4x64 .f32) (k : FVec Ideal S4x4x64x64 .f32) (N : FVec Ideal S4x4x64 .f32) : FVec Ideal S4x4x64 .f32 :=
  (addf (mulf (broadcastInDim S4x4x64 ![0, 1, 2] bcast_S4x4x1_S4x4x64_0_1_2 (broadcastInDim S4x4x1 ![0, 1] bcast_S4x4_S4x4x1_0_1 sc)) N) (Host.dotGeneral dot_S4x4x64_S4x4x64x64_S4x4x64_2_2_n_3_01_01 none ai k))

/-- The chunk's output rows. -/
def hV (w : FVec Ideal S4x4x64x64 .f32) (v : FVec Ideal S4x4x64x128 .f32) (a : FVec Ideal S4x4x64 .f32) (q : FVec Ideal S4x4x64x64 .f32) (mt : FVec Ideal S4x4x64 .f32) (C : FVec Ideal S4x4x64x128 .f32) (N : FVec Ideal S4x4x64 .f32) : FVec Ideal S4x4x64x128 .f32 :=
  Host.divf (addf (Host.dotGeneral dot_S4x4x64x64_S4x4x64x128_S4x4x64x128_3_2_2_3_01_01 none w v) (mulf (broadcastInDim S4x4x64x128 ![0, 1, 2, 3] bcast_S4x4x64x1_S4x4x64x128_0_1_2_3 (broadcastInDim S4x4x64x1 ![0, 1, 2] bcast_S4x4x64_S4x4x64x1_0_1_2 a)) (Host.dotGeneral dot_S4x4x64x64_S4x4x64x128_S4x4x64x128_3_2_2_3_01_01 none q C))) (broadcastInDim S4x4x64x128 ![0, 1, 2, 3] bcast_S4x4x64x1_S4x4x64x128_0_1_2_3 (broadcastInDim S4x4x64x1 ![0, 1, 2] bcast_S4x4x64_S4x4x64x1_0_1_2 (maximumf (Host.absf (addf (Host.reduceAdd w (constant S_ .f32 0x00000000#32) reducesTo_S4x4x64x64_S4x4x64_d3 h_S_) (mulf a (Host.dotGeneral dot_S4x4x64x64_S4x4x64_S4x4x64_3_2_2_n_01_01 none q N)))) (Host.exp (Host.negf mt)))))

/-- Running sums over the chunk. -/
def wcV (x : FVec Ideal S4x4x64 .f32) : FVec Ideal S4x4x64 .f32 :=
  Host.reduceWindowAdd ![1, 1, 64] ![1, 1, 1] ![0, 0, 63] ![0, 0, 0] x (broadcastInDim S_ ![] bcast_S_S_ (constant S_ .f32 0x00000000#32)) reduceWindows_S4x4x64_S4x4x64_w1s1p0_0_w1s1p0_0_w64s1p63_0 h_S_

theorem d_eq (V0 : Valuation τ sig (Elt Ideal)) : res_main_while0b_v84 V0 = dV (res_main_while0b_v75 V0) (res_main_while0b_v73 V0) (V0 (Proc.devRef .tc main_v44_5)) := rfl

theorem u_eq (V0 : Valuation τ sig (Elt Ideal)) : res_main_while0b_v87 V0 = uV (res_main_while0b_v75 V0) (V0 (Proc.devRef .tc main_v44_9)) := rfl

theorem mt_eq (V0 : Valuation τ sig (Elt Ideal)) : res_main_while0b_v89 V0 = mtV (res_main_while0b_v87 V0) (res_main_while0b_v84 V0) := rfl

theorem w_eq (V0 : Valuation τ sig (Elt Ideal)) : res_main_while0b_v95 V0 = wV (res_main_while0b_v70 V0) (res_main_while0b_v71 V0) (res_main_while0b_v84 V0) (res_main_while0b_v89 V0) := rfl

theorem a_eq (V0 : Valuation τ sig (Elt Ideal)) : res_main_while0b_v97 V0 = aV (res_main_while0b_v87 V0) (res_main_while0b_v89 V0) := rfl

theorem bT_eq (V0 : Valuation τ sig (Elt Ideal)) : res_main_while0b_v116 V0 = bTV (res_main_while0b_v75 V0) := rfl

theorem g_eq (V0 : Valuation τ sig (Elt Ideal)) : res_main_while0b_v120 V0 = gV (res_main_while0b_v116 V0) (res_main_while0b_v75 V0) (res_main_while0b_v73 V0) := rfl

theorem ml_eq (V0 : Valuation τ sig (Elt Ideal)) : res_main_while0b_v123 V0 = mlV (res_main_while0b_v116 V0) (res_main_while0b_v120 V0) (V0 (Proc.devRef .tc main_v44_9)) := rfl

theorem ai_eq (V0 : Valuation τ sig (Elt Ideal)) : res_main_while0b_v127 V0 = aiV (res_main_while0b_v120 V0) (res_main_while0b_v123 V0) := rfl

theorem sc_eq (V0 : Valuation τ sig (Elt Ideal)) : res_main_while0b_v130 V0 = scV (res_main_while0b_v116 V0) (res_main_while0b_v123 V0) (V0 (Proc.devRef .tc main_v44_9)) := rfl

theorem nextCV_eq (V0 : Valuation τ sig (Elt Ideal)) : step_main_v44_7 V0 = nextCV (res_main_while0b_v130 V0) (res_main_while0b_v127 V0) (res_main_while0b_v71 V0) (res_main_while0b_v72 V0) (V0 (Proc.devRef .tc main_v44_7)) := rfl

theorem nextNV_eq (V0 : Valuation τ sig (Elt Ideal)) : step_main_v44_8 V0 = nextNV (res_main_while0b_v130 V0) (res_main_while0b_v127 V0) (res_main_while0b_v71 V0) (V0 (Proc.devRef .tc main_v44_8)) := rfl

theorem next10_eq (V0 : Valuation τ sig (Elt Ideal)) : step_main_v44_10 V0 = Host.dynamicUpdateSlice (V0 (Proc.devRef .tc main_v44_10)) (broadcastInDim S1x4x4x64x128 ![1, 2, 3, 4] bcast_S4x4x64x128_S1x4x4x64x128_1_2_3_4 (hV (res_main_while0b_v95 V0) (res_main_while0b_v72 V0) (res_main_while0b_v97 V0) (res_main_while0b_v70 V0) (res_main_while0b_v89 V0) (V0 (Proc.devRef .tc main_v44_7)) (V0 (Proc.devRef .tc main_v44_8)))) (fun k => (((![V0 (Proc.devRef .tc main_v44_6), constantI S_ 32 0#32, constantI S_ 32 0#32, constantI S_ 32 0#32, constantI S_ 32 0#32] : Fin 5 → (⟨S_, .i32⟩ : BufTy).Contents (Elt Ideal))) k (Shape.Idx.first h_S_)).toInt) updateFits_S128x4x4x64x128_S1x4x4x64x128 := by
  unfold step_main_v44_10 hV
  exact id_eq _

theorem b_eq (V0 : Valuation τ sig (Elt Ideal)) : res_main_while0b_v75 V0 = wcV (shapeCast S4x4x64 (Host.dynamicSlice S1x4x4x64 (V0 (Proc.devRef .tc main_v44_4)) (fun k => (((![V0 (Proc.devRef .tc main_v44_6), constantI S_ 32 0#32, constantI S_ 32 0#32, constantI S_ 32 0#32] : Fin 4 → (⟨S_, .i32⟩ : BufTy).Contents (Elt Ideal))) k (Shape.Idx.first h_S_)).toInt) sliceFits_S128x4x4x64_S1x4x4x64) shapeCasts_S1x4x4x64_S4x4x64) := rfl

/-! The same vectors at an index. -/

section at_index
variable (q k : FVec Ideal S4x4x64x64 .f32) (v C : FVec Ideal S4x4x64x128 .f32) (x i N : FVec Ideal S4x4x64 .f32) (M : FVec Ideal S4x4 .f32)
  (bb h : Fin 4) (r s : Fin 64)

theorem dV_at : dV x i trilV (ix4 bb h r s) = Rec.lw (fun s => x (ix3 bb h s)) (fun s => i (ix3 bb h s)) r s := by
  pointwise [dV, Rec.lw]
  rw [trilV_at]
  congr 1

theorem mtV_at : mtV (uV x M) (dV x i trilV) (ix3 bb h r) = Rec.mt (fun s => x (ix3 bb h s)) (fun s => i (ix3 bb h s)) (M (ix2 bb h)) r := by
  have e : ∀ s, dV x i trilV (ix4 bb h r s) = Rec.lw (fun s => x (ix3 bb h s)) (fun s => i (ix3 bb h s)) r s := fun s => dV_at x i bb h r s
  generalize dV x i trilV = d at e
  pointwise [mtV, uV, Rec.mt, e]
  rw [bot_bits]

theorem wV_at : wV q k (dV x i trilV) (mtV (uV x M) (dV x i trilV)) (ix4 bb h r s)
    = Rec.wt (fun s => x (ix3 bb h s)) (fun s => i (ix3 bb h s)) (M (ix2 bb h)) (fun j => q (ix4 bb h r j)) (fun s j => k (ix4 bb h s j)) r s := by
  have e := dV_at x i bb h r s
  have e' := mtV_at x i M bb h r
  generalize mtV (uV x M) (dV x i trilV) = mt at e'
  generalize dV x i trilV = d at e
  pointwise [wV, Rec.wt, e, e']

theorem aV_at : aV (uV x M) (mtV (uV x M) (dV x i trilV)) (ix3 bb h r)
    = Ideal.exp (x (ix3 bb h r) + M (ix2 bb h) - Rec.mt (fun s => x (ix3 bb h s)) (fun s => i (ix3 bb h s)) (M (ix2 bb h)) r) := by
  have e' := mtV_at x i M bb h r
  generalize mtV (uV x M) (dV x i trilV) = mt at e'
  pointwise [aV, uV, e']

theorem hV_at (d : Fin 128) : hV (wV q k (dV x i trilV) (mtV (uV x M) (dV x i trilV))) v (aV (uV x M) (mtV (uV x M) (dV x i trilV))) q
      (mtV (uV x M) (dV x i trilV)) C N (ix4 bb h r d)
    = Ideal.div (Rec.num (fun s => x (ix3 bb h s)) (fun s => i (ix3 bb h s)) (M (ix2 bb h)) (fun j => q (ix4 bb h r j)) (fun s j => k (ix4 bb h s j)) (fun s => v (ix4 bb h s d)) (fun j => C (ix4 bb h j d)) r)
      (max (FloatOps.absf (F := Ideal) (φ := .f32) (Rec.den (fun s => x (ix3 bb h s)) (fun s => i (ix3 bb h s)) (M (ix2 bb h)) (fun j => q (ix4 bb h r j)) (fun s j => k (ix4 bb h s j)) (fun j => N (ix3 bb h j)) r))
        (Ideal.exp (0 - Rec.mt (fun s => x (ix3 bb h s)) (fun s => i (ix3 bb h s)) (M (ix2 bb h)) r))) := by
  have e := fun s => wV_at q k x i M bb h r s
  have e' := mtV_at x i M bb h r
  have e'' := aV_at x i M bb h r
  generalize wV q k (dV x i trilV) (mtV (uV x M) (dV x i trilV)) = w at e
  generalize aV (uV x M) (mtV (uV x M) (dV x i trilV)) = a at e''
  generalize mtV (uV x M) (dV x i trilV) = mt at e'
  pointwise [hV, e, e', e'', Rec.num, Rec.den]
  rw [zero_sub]

theorem bTV_at : bTV x (ix2 bb h) = x (ix3 bb h 63) := by
  pointwise [bTV]

theorem gV_at : gV (bTV x) x i (ix3 bb h s) = x (ix3 bb h 63) - x (ix3 bb h s) + i (ix3 bb h s) := by
  have e := bTV_at x bb h
  generalize bTV x = bT at e
  pointwise [gV, e]

theorem mlV_at : mlV (bTV x) (gV (bTV x) x i) M (ix2 bb h) = Rec.ml (fun s => x (ix3 bb h s)) (fun s => i (ix3 bb h s)) (M (ix2 bb h)) 63 := by
  have e := bTV_at x bb h
  have e' := fun s => gV_at x i bb h s
  generalize gV (bTV x) x i = g at e'
  generalize bTV x = bT at e
  pointwise [mlV, e, e', Rec.ml]
  rw [bot_bits]

theorem aiV_at : aiV (gV (bTV x) x i) (mlV (bTV x) (gV (bTV x) x i) M) (ix3 bb h s)
    = Ideal.exp (x (ix3 bb h 63) - x (ix3 bb h s) + i (ix3 bb h s) - Rec.ml (fun s => x (ix3 bb h s)) (fun s => i (ix3 bb h s)) (M (ix2 bb h)) 63) := by
  have e := mlV_at x i M bb h
  have e' := fun s => gV_at x i bb h s
  generalize mlV (bTV x) (gV (bTV x) x i) M = ml at e
  generalize gV (bTV x) x i = g at e'
  pointwise [aiV, e, e']

theorem scV_at : scV (bTV x) (mlV (bTV x) (gV (bTV x) x i) M) M (ix2 bb h)
    = Ideal.exp (x (ix3 bb h 63) + M (ix2 bb h) - Rec.ml (fun s => x (ix3 bb h s)) (fun s => i (ix3 bb h s)) (M (ix2 bb h)) 63) := by
  have e := mlV_at x i M bb h
  have e' := bTV_at x bb h
  generalize mlV (bTV x) (gV (bTV x) x i) M = ml at e
  generalize bTV x = bT at e'
  pointwise [scV, e, e']

theorem nextCV_at (j : Fin 64) (d : Fin 128) : nextCV (scV (bTV x) (mlV (bTV x) (gV (bTV x) x i) M) M) (aiV (gV (bTV x) x i) (mlV (bTV x) (gV (bTV x) x i) M)) k v C (ix4 bb h j d)
    = Rec.st (fun s => x (ix3 bb h s)) (fun s => i (ix3 bb h s)) (M (ix2 bb h)) 63 (fun s => k (ix4 bb h s j)) (fun s => v (ix4 bb h s d)) (C (ix4 bb h j d)) := by
  have e := scV_at x i M bb h
  have e' := fun s => aiV_at x i M bb h s
  generalize scV (bTV x) (mlV (bTV x) (gV (bTV x) x i) M) M = sc at e
  generalize aiV (gV (bTV x) x i) (mlV (bTV x) (gV (bTV x) x i) M) = ai at e'
  pointwise [nextCV, e, e', Rec.st]
  refine congrArg _ (Finset.sum_congr rfl fun s _ => ?_)
  rw [mul_comm (Ideal.exp _) (k _), mul_assoc]

theorem nextNV_at (j : Fin 64) : nextNV (scV (bTV x) (mlV (bTV x) (gV (bTV x) x i) M) M) (aiV (gV (bTV x) x i) (mlV (bTV x) (gV (bTV x) x i) M)) k N (ix3 bb h j)
    = Rec.st (fun s => x (ix3 bb h s)) (fun s => i (ix3 bb h s)) (M (ix2 bb h)) 63 (fun s => k (ix4 bb h s j)) (fun _ => 1) (N (ix3 bb h j)) := by
  have e := scV_at x i M bb h
  have e' := fun s => aiV_at x i M bb h s
  generalize scV (bTV x) (mlV (bTV x) (gV (bTV x) x i) M) M = sc at e
  generalize aiV (gV (bTV x) x i) (mlV (bTV x) (gV (bTV x) x i) M) = ai at e'
  pointwise [nextNV, e, e', Rec.st]
  refine congrArg _ (Finset.sum_congr rfl fun s _ => ?_)
  exact mul_comm _ _
end at_index

/-! Sums over a window that ends at its own position. -/

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

theorem sum_window (g : ℕ → ℝ) (r : ℕ) (hr : r < 64) :
    ∑ n ∈ Finset.range 64, (if 63 ≤ r + n then g (r + n - 63) else 0) = ∑ x ∈ Finset.range (r + 1), g x := by
  rw [show 64 = (63 - r) + (r + 1) by omega, Finset.sum_range_add, Finset.sum_eq_zero, zero_add]
  · refine Finset.sum_congr rfl fun x _ => ?_
    rw [if_pos (by omega), show r + (63 - r + x) - 63 = x by omega]
  · intro x hx
    rw [Finset.mem_range] at hx
    rw [if_neg (by omega)]

abbrev win : Shape := ⟨3, ![1, 1, 64]⟩

theorem win_at : ∀ n : Fin win.numel, (win.rowMajor.symm n 0).val = 0 ∧ (win.rowMajor.symm n 1).val = 0 ∧ (win.rowMajor.symm n 2).val = n.val := by
  decide +kernel

theorem wcV_at (x : FVec Ideal S4x4x64 .f32) (b h : Fin 4) (f : ℕ → ℝ) (p : ℕ) (hx : ∀ r : Fin 64, x (ix3 b h r) = ((f (p + r.val) : ℝ) : EReal)) (r : Fin 64) :
    wcV x (ix3 b h r) = ((Rec.cum f p r.val : ℝ) : EReal) := by
  have hz : (broadcastInDim S_ ![] bcast_S_S_ (constant (F := Ideal) S_ .f32 0x00000000#32)) (Shape.Idx.first h_S_) = (0 : EReal) := by
    pointwise []
  show Host.reduceWindow (s := S4x4x64) (t := S4x4x64) (· + ·) ![1, 1, 64] ![1, 1, 1] ![0, 0, 63] ![0, 0, 0] x
    (fun _ : (⟨0, ![]⟩ : Shape).Idx => (broadcastInDim S_ ![] bcast_S_S_ (constant (F := Ideal) S_ .f32 0x00000000#32)) (Shape.Idx.first h_S_))
    reduceWindows_S4x4x64_S4x4x64_w1s1p0_0_w1s1p0_0_w64s1p63_0 (by decide) (ix3 b h r) = _
  rw [hz]
  unfold Host.reduceWindow
  refine (foldl_add (List.finRange win.numel) _ 0).trans ?_
  rw [zero_add, ← Fin.sum_univ_def]
  refine (Finset.sum_congr rfl (g := fun n : Fin win.numel => (((if 63 ≤ r.val + n.val then f (p + (r.val + n.val - 63)) else 0 : ℝ)) : EReal)) fun n _ => ?_).trans ?_
  · obtain ⟨h0, h1, h2⟩ := win_at n
    have hn : n.val < 64 := n.isLt
    by_cases h3 : 63 ≤ r.val + n.val
    · rw [if_pos h3]
      refine (dif_pos fun a => ?_).trans ?_
      · fin_cases a
        · show 0 ≤ b.val * 1 + (win.rowMajor.symm n 0).val ∧ b.val * 1 + (win.rowMajor.symm n 0).val - 0 < 4
          omega
        · show 0 ≤ h.val * 1 + (win.rowMajor.symm n 1).val ∧ h.val * 1 + (win.rowMajor.symm n 1).val - 0 < 4
          omega
        · show 63 ≤ r.val * 1 + (win.rowMajor.symm n 2).val ∧ r.val * 1 + (win.rowMajor.symm n 2).val - 63 < 64
          omega
      · refine Eq.trans (congrArg x (funext fun a => Fin.ext ?_)) (hx ⟨r.val + n.val - 63, by omega⟩)
        fin_cases a
        · show b.val * 1 + (win.rowMajor.symm n 0).val - 0 = b.val
          omega
        · show h.val * 1 + (win.rowMajor.symm n 1).val - 0 = h.val
          omega
        · show r.val * 1 + (win.rowMajor.symm n 2).val - 63 = r.val + n.val - 63
          omega
    · rw [if_neg h3]
      refine dif_neg fun hin => h3 ?_
      have h4 : 63 ≤ r.val * 1 + (win.rowMajor.symm n 2).val := (hin 2).1
      omega
  rw [Rec.coe_sum']
  refine congrArg _ ?_
  refine (Fin.sum_univ_eq_sum_range (fun n => if 63 ≤ r.val + n then f (p + (r.val + n - 63)) else 0) win.numel).trans ?_
  exact sum_window (fun x => f (p + x)) r.val r.isLt

/-! Reading and writing one chunk. -/

theorem slice_qk (X : FVec Ideal S128x4x4x64x64 .f32) (start : Fin 5 → Int) (t : Fin 128) (hs : ∀ a, start a = ((![t.val, 0, 0, 0, 0] : Fin 5 → ℕ) a : Int))
    (b h : Fin 4) (r j : Fin 64) :
    shapeCast S4x4x64x64 (Host.dynamicSlice S1x4x4x64x64 X start sliceFits_S128x4x4x64x64_S1x4x4x64x64) shapeCasts_S1x4x4x64x64_S4x4x64x64 (ix4 b h r j) = X (ix5 t b h r j) := by
  rw [Host.dynamicSlice_eq_extractStridedSlice S1x4x4x64x64 X start ![t.val, 0, 0, 0, 0] _ (by
    refine ⟨rfl, fun a => ?_⟩
    have := t.isLt
    fin_cases a <;> simp <;> omega) hs]
  pointwise []

theorem slice_v (X : FVec Ideal S128x4x4x64x128 .f32) (start : Fin 5 → Int) (t : Fin 128) (hs : ∀ a, start a = ((![t.val, 0, 0, 0, 0] : Fin 5 → ℕ) a : Int))
    (b h : Fin 4) (r : Fin 64) (j : Fin 128) :
    shapeCast S4x4x64x128 (Host.dynamicSlice S1x4x4x64x128 X start sliceFits_S128x4x4x64x128_S1x4x4x64x128) shapeCasts_S1x4x4x64x128_S4x4x64x128 (ix4 b h r j) = X (ix5 t b h r j) := by
  rw [Host.dynamicSlice_eq_extractStridedSlice S1x4x4x64x128 X start ![t.val, 0, 0, 0, 0] _ (by
    refine ⟨rfl, fun a => ?_⟩
    have := t.isLt
    fin_cases a <;> simp <;> omega) hs]
  pointwise []

theorem slice_g (X : FVec Ideal S128x4x4x64 .f32) (start : Fin 4 → Int) (t : Fin 128) (hs : ∀ a, start a = ((![t.val, 0, 0, 0] : Fin 4 → ℕ) a : Int))
    (b h : Fin 4) (r : Fin 64) :
    shapeCast S4x4x64 (Host.dynamicSlice S1x4x4x64 X start sliceFits_S128x4x4x64_S1x4x4x64) shapeCasts_S1x4x4x64_S4x4x64 (ix3 b h r) = X (ix4 t b h r) := by
  rw [Host.dynamicSlice_eq_extractStridedSlice S1x4x4x64 X start ![t.val, 0, 0, 0] _ (by
    refine ⟨rfl, fun a => ?_⟩
    have := t.isLt
    fin_cases a <;> simp <;> omega) hs]
  pointwise []

theorem write_h (X : FVec Ideal S128x4x4x64x128 .f32) (U : FVec Ideal S4x4x64x128 .f32) (start : Fin 5 → Int) (t : Fin 128) (hs : ∀ a, start a = ((![t.val, 0, 0, 0, 0] : Fin 5 → ℕ) a : Int))
    (t' : Fin 128) (b h : Fin 4) (r : Fin 64) (d : Fin 128) :
    Host.dynamicUpdateSlice X (broadcastInDim S1x4x4x64x128 ![1, 2, 3, 4] bcast_S4x4x64x128_S1x4x4x64x128_1_2_3_4 U) start updateFits_S128x4x4x64x128_S1x4x4x64x128 (ix5 t' b h r d)
      = if t' = t then U (ix4 b h r d) else X (ix5 t' b h r d) := by
  have hc : ∀ a : Fin 5, Host.clampedStart S128x4x4x64x128 S1x4x4x64x128 rfl start a = (![t.val, 0, 0, 0, 0] : Fin 5 → ℕ) a := fun a =>
    Host.clampedStart_of_le (s := S128x4x4x64x128) (t := S1x4x4x64x128) rfl start a ((![t.val, 0, 0, 0, 0] : Fin 5 → ℕ) a) (hs a) (by
      have := t.isLt
      fin_cases a <;> simp <;> omega)
  have hU : ∀ z : Fin 1, broadcastInDim S1x4x4x64x128 ![1, 2, 3, 4] bcast_S4x4x64x128_S1x4x4x64x128_1_2_3_4 U (ix5 z b h r d) = U (ix4 b h r d) := fun z => by
    pointwise []
  rw [Host.dynamicUpdateSlice_apply]
  have h0 : Host.clampedStart S128x4x4x64x128 S1x4x4x64x128 rfl start 0 = t.val := hc 0
  have h1 : Host.clampedStart S128x4x4x64x128 S1x4x4x64x128 rfl start 1 = 0 := hc 1
  have h2 : Host.clampedStart S128x4x4x64x128 S1x4x4x64x128 rfl start 2 = 0 := hc 2
  have h3 : Host.clampedStart S128x4x4x64x128 S1x4x4x64x128 rfl start 3 = 0 := hc 3
  have h4 : Host.clampedStart S128x4x4x64x128 S1x4x4x64x128 rfl start 4 = 0 := hc 4
  by_cases e : t' = t
  · subst e
    rw [if_pos rfl]
    refine (dif_pos fun a => ?_).trans ?_
    · fin_cases a
      · show Host.clampedStart S128x4x4x64x128 S1x4x4x64x128 rfl start 0 ≤ t'.val ∧ t'.val < Host.clampedStart S128x4x4x64x128 S1x4x4x64x128 rfl start 0 + 1
        omega
      · show Host.clampedStart S128x4x4x64x128 S1x4x4x64x128 rfl start 1 ≤ b.val ∧ b.val < Host.clampedStart S128x4x4x64x128 S1x4x4x64x128 rfl start 1 + 4
        omega
      · show Host.clampedStart S128x4x4x64x128 S1x4x4x64x128 rfl start 2 ≤ h.val ∧ h.val < Host.clampedStart S128x4x4x64x128 S1x4x4x64x128 rfl start 2 + 4
        omega
      · show Host.clampedStart S128x4x4x64x128 S1x4x4x64x128 rfl start 3 ≤ r.val ∧ r.val < Host.clampedStart S128x4x4x64x128 S1x4x4x64x128 rfl start 3 + 64
        omega
      · show Host.clampedStart S128x4x4x64x128 S1x4x4x64x128 rfl start 4 ≤ d.val ∧ d.val < Host.clampedStart S128x4x4x64x128 S1x4x4x64x128 rfl start 4 + 128
        omega
    · refine Eq.trans (congrArg _ (funext fun a => Fin.ext ?_)) (hU 0)
      fin_cases a
      · show t'.val - Host.clampedStart S128x4x4x64x128 S1x4x4x64x128 rfl start 0 = 0
        omega
      · show b.val - Host.clampedStart S128x4x4x64x128 S1x4x4x64x128 rfl start 1 = b.val
        omega
      · show h.val - Host.clampedStart S128x4x4x64x128 S1x4x4x64x128 rfl start 2 = h.val
        omega
      · show r.val - Host.clampedStart S128x4x4x64x128 S1x4x4x64x128 rfl start 3 = r.val
        omega
      · show d.val - Host.clampedStart S128x4x4x64x128 S1x4x4x64x128 rfl start 4 = d.val
        omega
  · rw [if_neg e]
    refine dif_neg fun hin => e (Fin.ext ?_)
    have h5 : Host.clampedStart S128x4x4x64x128 S1x4x4x64x128 rfl start 0 ≤ t'.val ∧ t'.val < Host.clampedStart S128x4x4x64x128 S1x4x4x64x128 rfl start 0 + 1 := hin 0
    omega

theorem start5 (V : IVec S_ 32) (t : Fin 128) (hV : V = fun _ => BitVec.ofNat 32 t.val) (a : Fin 5) :
    (((![V, constantI S_ 32 0#32, constantI S_ 32 0#32, constantI S_ 32 0#32, constantI S_ 32 0#32] : Fin 5 → (⟨S_, .i32⟩ : BufTy).Contents (Elt Ideal))) a (Shape.Idx.first h_S_)).toInt
      = ((![t.val, 0, 0, 0, 0] : Fin 5 → ℕ) a : Int) := by
  subst hV
  fin_cases a
  · exact toInt_ofNat_of_lt (by have := t.isLt; omega)
  all_goals rfl

theorem start4 (V : IVec S_ 32) (t : Fin 128) (hV : V = fun _ => BitVec.ofNat 32 t.val) (a : Fin 4) :
    (((![V, constantI S_ 32 0#32, constantI S_ 32 0#32, constantI S_ 32 0#32] : Fin 4 → (⟨S_, .i32⟩ : BufTy).Contents (Elt Ideal))) a (Shape.Idx.first h_S_)).toInt
      = ((![t.val, 0, 0, 0] : Fin 4 → ℕ) a : Int) := by
  subst hV
  fin_cases a
  · exact toInt_ofNat_of_lt (by have := t.isLt; omega)
  all_goals rfl

end Cert.Ml.Ref

end
-- ==== Proof.MlRef.lean ====
module

public import proofs.«01_k».proof.Proof.MlStep

@[expose] public section

set_option maxRecDepth 16384

noncomputable section

namespace Cert.Ml.Ref

open Idealize.ShloMosaic Idealize.ShloMosaic.TcCoe Idealize.SL.Sem
open Cert.ReferenceIdeal Cert.ReferenceIdeal.Gen Cert.ReferenceIdeal.Value
open Idealize.ShloMosaic.StableHlo

/-! One chunk of the loop, from the state before it to the state after it. -/

section chunk
variable {A : Args} {p : ℕ} {q k : FVec Ideal S4x4x64x64 .f32} {v C : FVec Ideal S4x4x64x128 .f32} {x i N : FVec Ideal S4x4x64 .f32}
  {M : FVec Ideal S4x4 .f32}
  (hq : ∀ b h r j, q (ix4 b h r j) = ((A.qr b h (p + r.val) j : ℝ) : EReal))
  (hk : ∀ b h r j, k (ix4 b h r j) = ((A.kr b h (p + r.val) j : ℝ) : EReal))
  (hv : ∀ b h r d, v (ix4 b h r d) = ((A.vr b h (p + r.val) d : ℝ) : EReal))
  (hx : ∀ b h r, x (ix3 b h r) = ((Rec.cum (A.f b h) p r.val : ℝ) : EReal))
  (hi : ∀ b h r, i (ix3 b h r) = ((A.i b h (p + r.val) : ℝ) : EReal))
  (hC : ∀ b h j d, C (ix4 b h j d) = ((A.C b h j d p : ℝ) : EReal))
  (hN : ∀ b h j, N (ix3 b h j) = ((A.N b h j p : ℝ) : EReal))
  (hM : ∀ b h, M (ix2 b h) = ((A.M b h p : ℝ) : EReal))

include hx hi hM in
theorem chunkM (b h : Fin 4) : mlV (bTV x) (gV (bTV x) x i) M (ix2 b h) = ((A.M b h (p + 64) : ℝ) : EReal) :=
  (mlV_at x i M b h).trans (Rec.ml_coe (hx b h) (hi b h) (hM b h) 63 (by decide))

include hk hv hx hi hC hM in
theorem chunkC (b h : Fin 4) (j : Fin 64) (d : Fin 128) :
    nextCV (scV (bTV x) (mlV (bTV x) (gV (bTV x) x i) M) M) (aiV (gV (bTV x) x i) (mlV (bTV x) (gV (bTV x) x i) M)) k v C (ix4 b h j d)
      = ((A.C b h j d (p + 64) : ℝ) : EReal) :=
  (nextCV_at k v C x i M b h j d).trans
    (Rec.st_coe (hx b h) (hi b h) (hM b h) 63 (by decide) _ _ _ (fun n => A.kr b h n j) (fun n => A.vr b h n d) (fun s => hk b h s j) (fun s => hv b h s d) (hC b h j d))

include hk hx hi hN hM in
theorem chunkN (b h : Fin 4) (j : Fin 64) :
    nextNV (scV (bTV x) (mlV (bTV x) (gV (bTV x) x i) M) M) (aiV (gV (bTV x) x i) (mlV (bTV x) (gV (bTV x) x i) M)) k N (ix3 b h j)
      = ((A.N b h j (p + 64) : ℝ) : EReal) := by
  have e : (fun n => A.kr b h n j * (1 : ℝ)) = fun n => A.kr b h n j := funext fun n => mul_one _
  refine (nextNV_at k x i N M b h j).trans ?_
  rw [Args.N, ← e]
  refine Rec.st_coe (hx b h) (hi b h) (hM b h) 63 (by decide) _ _ _ (fun n => A.kr b h n j) (fun _ => 1) (fun s => hk b h s j) (fun s => rfl) ?_
  rw [hN, Args.N, e]

include hq hk hv hx hi hC hN hM in
theorem chunkH (b h : Fin 4) (r : Fin 64) (d : Fin 128) :
    hV (wV q k (dV x i trilV) (mtV (uV x M) (dV x i trilV))) v (aV (uV x M) (mtV (uV x M) (dV x i trilV))) q
      (mtV (uV x M) (dV x i trilV)) C N (ix4 b h r d) = A.H b h (p + r.val) d := by
  rw [hV_at, Args.H]
  rw [Rec.num_coe (hx b h) (hi b h) (hM b h) r _ _ _ _ (fun j => A.qr b h (p + r.val) j) (fun n j => A.kr b h n j) (fun n => A.vr b h n d)
      (fun j => hq b h r j) (fun s j => hk b h s j) (fun s => hv b h s d) (fun j => hC b h j d),
    Rec.den_coe (hx b h) (hi b h) (hM b h) r _ _ _ (fun j => A.qr b h (p + r.val) j) (fun n j => A.kr b h n j)
      (fun j => hq b h r j) (fun s j => hk b h s j) (fun j => hN b h j),
    Rec.mt_coe (hx b h) (hi b h) (hM b h)]
  rfl
end chunk

/-- What the carried buffers hold before chunk `k`. -/
structure At (A : Args) (u : ℕ) (Q K : FVec Ideal S128x4x4x64x64 .f32) (V : FVec Ideal S128x4x4x64x128 .f32) (I F : FVec Ideal S128x4x4x64 .f32)
    (T : IVec S64x64 1) (n : IVec S_ 32) (C : FVec Ideal S4x4x64x128 .f32) (N : FVec Ideal S4x4x64 .f32) (M : FVec Ideal S4x4 .f32)
    (H : FVec Ideal S128x4x4x64x128 .f32) : Prop where
  q : ∀ t b h r j, Q (ix5 t b h r j) = ((A.qr b h (64 * t.val + r.val) j : ℝ) : EReal)
  k : ∀ t b h r j, K (ix5 t b h r j) = ((A.kr b h (64 * t.val + r.val) j : ℝ) : EReal)
  v : ∀ t b h r d, V (ix5 t b h r d) = ((A.vr b h (64 * t.val + r.val) d : ℝ) : EReal)
  i : ∀ t b h r, I (ix4 t b h r) = ((A.i b h (64 * t.val + r.val) : ℝ) : EReal)
  f : ∀ t b h r, F (ix4 t b h r) = ((A.f b h (64 * t.val + r.val) : ℝ) : EReal)
  t : T = trilV
  n : n = fun _ => BitVec.ofNat 32 u
  C : ∀ b h j d, C (ix4 b h j d) = ((A.C b h j d (64 * u) : ℝ) : EReal)
  N : ∀ b h j, N (ix3 b h j) = ((A.N b h j (64 * u) : ℝ) : EReal)
  M : ∀ b h, M (ix2 b h) = ((A.M b h (64 * u) : ℝ) : EReal)
  H : ∀ t : Fin 128, t.val < u → ∀ b h r d, H (ix5 t b h r d) = A.H b h (64 * t.val + r.val) d

/-- The same of a valuation. -/
abbrev AtV (A : Args) (k : ℕ) (V : Valuation τ sig (Elt Ideal)) : Prop :=
  At A k (V (Proc.devRef .tc main_v44_0)) (V (Proc.devRef .tc main_v44_1)) (V (Proc.devRef .tc main_v44_2)) (V (Proc.devRef .tc main_v44_3))
    (V (Proc.devRef .tc main_v44_4)) (V (Proc.devRef .tc main_v44_5)) (V (Proc.devRef .tc main_v44_6)) (V (Proc.devRef .tc main_v44_7))
    (V (Proc.devRef .tc main_v44_8)) (V (Proc.devRef .tc main_v44_9)) (V (Proc.devRef .tc main_v44_10))

section step
variable {A : Args} {k : ℕ} {V : Valuation τ sig (Elt Ideal)} (h : AtV A k V) (hk : k < 128)

include h hk in
theorem AtV.step : AtV A (k + 1) (STEP V) := by
  have sq : ∀ (b hh : Fin 4) (r j : Fin 64), (res_main_while0b_v70 V : FVec Ideal S4x4x64x64 .f32) (ix4 b hh r j) = ((A.qr b hh (64 * k + r.val) j : ℝ) : EReal) := fun b hh r j => (slice_qk _ _ ⟨k, hk⟩ (start5 _ ⟨k, hk⟩ h.n) b hh r j).trans (h.q ⟨k, hk⟩ b hh r j)
  have sk : ∀ (b hh : Fin 4) (r j : Fin 64), (res_main_while0b_v71 V : FVec Ideal S4x4x64x64 .f32) (ix4 b hh r j) = ((A.kr b hh (64 * k + r.val) j : ℝ) : EReal) := fun b hh r j => (slice_qk _ _ ⟨k, hk⟩ (start5 _ ⟨k, hk⟩ h.n) b hh r j).trans (h.k ⟨k, hk⟩ b hh r j)
  have sv : ∀ (b hh : Fin 4) (r : Fin 64) (d : Fin 128), (res_main_while0b_v72 V : FVec Ideal S4x4x64x128 .f32) (ix4 b hh r d) = ((A.vr b hh (64 * k + r.val) d : ℝ) : EReal) := fun b hh r d => (slice_v _ _ ⟨k, hk⟩ (start5 _ ⟨k, hk⟩ h.n) b hh r d).trans (h.v ⟨k, hk⟩ b hh r d)
  have si : ∀ (b hh : Fin 4) (r : Fin 64), (res_main_while0b_v73 V : FVec Ideal S4x4x64 .f32) (ix3 b hh r) = ((A.i b hh (64 * k + r.val) : ℝ) : EReal) := fun b hh r => (slice_g _ _ ⟨k, hk⟩ (start4 _ ⟨k, hk⟩ h.n) b hh r).trans (h.i ⟨k, hk⟩ b hh r)
  have sx : ∀ (b hh : Fin 4) (r : Fin 64), (res_main_while0b_v75 V : FVec Ideal S4x4x64 .f32) (ix3 b hh r) = ((Rec.cum (A.f b hh) (64 * k) r.val : ℝ) : EReal) := fun b hh r => wcV_at _ b hh (A.f b hh) (64 * k) (fun r => (slice_g _ _ ⟨k, hk⟩ (start4 _ ⟨k, hk⟩ h.n) b hh r).trans (h.f ⟨k, hk⟩ b hh r)) r
  have eM : STEP V (Proc.devRef .tc main_v44_9) = mlV (bTV (res_main_while0b_v75 V)) (gV (bTV (res_main_while0b_v75 V)) (res_main_while0b_v75 V) (res_main_while0b_v73 V)) (V (Proc.devRef .tc main_v44_9)) :=
    (STEP_main_v44_9 V).trans (by show res_main_while0b_v123 V = _; rw [ml_eq, g_eq, bT_eq])
  have eC : STEP V (Proc.devRef .tc main_v44_7) = nextCV (scV (bTV (res_main_while0b_v75 V)) (mlV (bTV (res_main_while0b_v75 V)) (gV (bTV (res_main_while0b_v75 V)) (res_main_while0b_v75 V) (res_main_while0b_v73 V)) (V (Proc.devRef .tc main_v44_9))) (V (Proc.devRef .tc main_v44_9)))
      (aiV (gV (bTV (res_main_while0b_v75 V)) (res_main_while0b_v75 V) (res_main_while0b_v73 V)) (mlV (bTV (res_main_while0b_v75 V)) (gV (bTV (res_main_while0b_v75 V)) (res_main_while0b_v75 V) (res_main_while0b_v73 V)) (V (Proc.devRef .tc main_v44_9))))
      (res_main_while0b_v71 V) (res_main_while0b_v72 V) (V (Proc.devRef .tc main_v44_7)) :=
    (STEP_main_v44_7 V).trans ((nextCV_eq V).trans (by rw [sc_eq, ai_eq, ml_eq, g_eq, bT_eq]))
  have eN : STEP V (Proc.devRef .tc main_v44_8) = nextNV (scV (bTV (res_main_while0b_v75 V)) (mlV (bTV (res_main_while0b_v75 V)) (gV (bTV (res_main_while0b_v75 V)) (res_main_while0b_v75 V) (res_main_while0b_v73 V)) (V (Proc.devRef .tc main_v44_9))) (V (Proc.devRef .tc main_v44_9)))
      (aiV (gV (bTV (res_main_while0b_v75 V)) (res_main_while0b_v75 V) (res_main_while0b_v73 V)) (mlV (bTV (res_main_while0b_v75 V)) (gV (bTV (res_main_while0b_v75 V)) (res_main_while0b_v75 V) (res_main_while0b_v73 V)) (V (Proc.devRef .tc main_v44_9))))
      (res_main_while0b_v71 V) (V (Proc.devRef .tc main_v44_8)) :=
    (STEP_main_v44_8 V).trans ((nextNV_eq V).trans (by rw [sc_eq, ai_eq, ml_eq, g_eq, bT_eq]))
  have eD : res_main_while0b_v84 V = dV (res_main_while0b_v75 V) (res_main_while0b_v73 V) trilV := (d_eq V).trans (congrArg _ h.t)
  refine ⟨fun t b hh r j => ?_, fun t b hh r j => ?_, fun t b hh r d => ?_, fun t b hh r => ?_, fun t b hh r => ?_, ?_, ?_,
    fun b hh j d => ?_, fun b hh j => ?_, fun b hh => ?_, fun t ht b hh r d => ?_⟩
  · exact (congrFun (STEP_main_v44_0 V) _).trans (h.q t b hh r j)
  · exact (congrFun (STEP_main_v44_1 V) _).trans (h.k t b hh r j)
  · exact (congrFun (STEP_main_v44_2 V) _).trans (h.v t b hh r d)
  · exact (congrFun (STEP_main_v44_3 V) _).trans (h.i t b hh r)
  · exact (congrFun (STEP_main_v44_4 V) _).trans (h.f t b hh r)
  · exact (STEP_main_v44_5 V).trans h.t
  · refine (STEP_main_v44_6 V).trans (funext fun z => ?_)
    refine (congrFun (congrArg (fun n => addi n (constantI S_ 32 1#32)) h.n) z).trans ?_
    show BitVec.ofNat 32 k + 1#32 = BitVec.ofNat 32 (k + 1)
    exact (BitVec.ofNat_add _ _).symm
  · exact (congrFun eC _).trans (chunkC sk sv sx si h.C h.M b hh j d)
  · exact (congrFun eN _).trans (chunkN sk sx si h.N h.M b hh j)
  · exact (congrFun eM _).trans (chunkM sx si h.M b hh)
  · refine (congrFun ((STEP_main_v44_10 V).trans (next10_eq V)) _).trans ?_
    refine (write_h _ _ _ ⟨k, hk⟩ (start5 _ ⟨k, hk⟩ h.n) t b hh r d).trans ?_
    by_cases e : t = ⟨k, hk⟩
    · subst e
      rw [if_pos rfl, w_eq, a_eq, mt_eq, u_eq, eD]
      exact chunkH sq sk sv sx si h.C h.N h.M b hh r d
    · rw [if_neg e]
      exact h.H t (by have : t.val ≠ k := fun e' => e (Fin.ext e'); omega) b hh r d
end step

section run
variable (m : (ℓ : Loc nD τ sig) → Buf (Elt Ideal) ℓ) (c : Dev nD)

theorem z4 (i) : (broadcastInDim S4x4x64x128 ![] bcast_S_S4x4x64x128 (constant (F := Ideal) S_ .f32 0x00000000#32)) i = (0 : EReal) := by
  pointwise []
theorem z3 (i) : (broadcastInDim S4x4x64 ![] bcast_S_S4x4x64 (constant (F := Ideal) S_ .f32 0x00000000#32)) i = (0 : EReal) := by
  pointwise []
theorem z2 (i) : (broadcastInDim S4x4 ![] bcast_S_S4x4 (constant (F := Ideal) S_ .f32 0x00000000#32)) i = (0 : EReal) := by
  pointwise []

theorem AtV.entry (hA : (argsR m c).Finite) : AtV (argsR m c) 0 (ent m c) := by
  refine ⟨fun t b hh r j => ?_, fun t b hh r j => ?_, fun t b hh r d => ?_, fun t b hh r => ?_, fun t b hh r => ?_, raw5 m c, ctr_entry m c,
    fun b hh j d => ?_, fun b hh j => ?_, fun b hh => ?_, fun t ht => absurd ht (Nat.not_lt_zero _)⟩
  · exact (congrFun (raw0 m c) _).trans ((qkV_at t b hh r _ j).trans (hA.q _ _))
  · exact (congrFun (raw1 m c) _).trans ((qkV_at t b hh r _ j).trans (hA.k _ _))
  · exact (congrFun (raw2 m c) _).trans ((vvV_at t b hh r _ d).trans (hA.v _ _))
  · refine (congrFun (raw3 m c) _).trans ((gtV_at t b hh r _).trans ((inV_at b hh _ _).trans ?_))
    rw [Nat.mul_comm 64 t.val]
    exact capE_coe _
  · refine (congrFun (raw4 m c) _).trans ((gtV_at t b hh r _).trans (lsgV_at _ _ _ ?_))
    refine (fgV_at b hh _ _).trans ?_
    rw [Nat.mul_comm 64 t.val]
    exact capE_coe _
  · exact (congrFun (raw7 m c) _).trans ((z4 _).trans EReal.coe_zero.symm)
  · exact (congrFun (raw8 m c) _).trans ((z3 _).trans EReal.coe_zero.symm)
  · exact (congrFun (raw9 m c) _).trans ((z2 _).trans EReal.coe_zero.symm)

theorem AtV.iter (hA : (argsR m c).Finite) : ∀ k, k ≤ 128 → AtV (argsR m c) k (STEP^[k] (ent m c))
  | 0, _ => AtV.entry m c hA
  | k + 1, hk => by
    rw [Function.iterate_succ_apply']
    exact (AtV.iter hA k (by omega)).step (by omega)

/-! The rows after the loop. -/
def rowsV (x : FVec Ideal S128x4x4x64x128 .f32) : FVec Ideal S4x8192x4x128 .f32 :=
  shapeCast _ (transpose S4x128x64x4x128 [1, 0, 3, 2, 4] x transposes_S128x4x4x64x128_S4x128x64x4x128_1_0_3_2_4) shapeCasts_S4x128x64x4x128_S4x8192x4x128

def normV (h : FVec Ideal S4x8192x4x128 .f32) (nw : FVec Ideal S512 .f32) : FVec Ideal S4x8192x4x128 .f32 :=
  mulf (mulf h (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf h h) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x4x128_S4x8192x4x128_0_1_2_3 (broadcastInDim S1x1x4x128 ![2, 3] bcast_S4x128_S1x1x4x128_2_3 (shapeCast _ nw shapeCasts_S512_S4x128)))

def gateV (mo : FVec Ideal S32768x512 .f32) (y : FVec Ideal S4x8192x4x128 .f32) : FVec Ideal S32768x512 .bf16 :=
  truncf .bf16 (mulf (Host.divf (broadcastInDim S32768x512 ![] bcast_S_S32768x512 (constant S_ .f32 0x3F800000#32)) (addf (broadcastInDim S32768x512 ![] bcast_S_S32768x512 (constant S_ .f32 0x3F800000#32)) (Host.exp (Host.negf mo)))) (shapeCast _ y shapeCasts_S4x8192x4x128_S32768x512)) bitsLt_bf16_f32

theorem out_eq (V0 : Valuation τ sig (Elt Ideal)) :
    out_main_v69 V0 = gateV (V0 (Proc.devRef .tc main_arg3)) (normV (rowsV (V0 (Proc.devRef .tc main_v44_10))) (V0 (Proc.devRef .tc main_arg5))) := rfl

variable (t : Fin 128) (b h : Fin 4) (r : Fin 64) (n : Fin 8192) (d : Fin 128)

theorem rowsV_at (x : FVec Ideal S128x4x4x64x128 .f32) : rowsV x (ix4 b ⟨t.val * 64 + r.val, by omega⟩ h d) = x (ix5 t b h r d) := by
  pointwise [rowsV]

theorem normV_at (x : FVec Ideal S4x8192x4x128 .f32) (nw : FVec Ideal S512 .f32) :
    normV x nw (ix4 b n h d) = x (ix4 b n h d) * Ideal.rsqrt (Ideal.div (∑ z, x (ix4 b n h z) * x (ix4 b n h z)) (Ideal.ofBits FTy.f32 0x43000000#32) + Ideal.ofBits FTy.f32 0x358637BD#32)
      * nw (ix1 ⟨h.val * 128 + d.val, by omega⟩) := by
  pointwise [normV]

theorem gateV_at (mo : FVec Ideal S32768x512 .f32) (y : FVec Ideal S4x8192x4x128 .f32) :
    gateV mo y (ix2 ⟨b.val * 8192 + n.val, by omega⟩ ⟨h.val * 128 + d.val, by omega⟩)
      = Ideal.logistic (mo (ix2 ⟨b.val * 8192 + n.val, by omega⟩ ⟨h.val * 128 + d.val, by omega⟩)) * y (ix4 b n h d) := by
  pointwise [gateV, Ideal.logistic]

theorem rows_after (hA : (argsR m c).Finite) : rowsV ((STEP^[128] (ent m c)) (Proc.devRef .tc main_v44_10)) (ix4 b n h d) = (argsR m c).H b h n.val d := by
  have hn : n = ⟨(⟨n.val / 64, by omega⟩ : Fin 128).val * 64 + (⟨n.val % 64, by omega⟩ : Fin 64).val, by show n.val / 64 * 64 + n.val % 64 < 8192; omega⟩ :=
    Fin.ext (by show n.val = n.val / 64 * 64 + n.val % 64; omega)
  refine (congrArg (fun n => rowsV _ (ix4 b n h d)) hn).trans ((rowsV_at _ b h _ d _).trans ?_)
  refine ((AtV.iter m c hA 128 le_rfl).H ⟨n.val / 64, by omega⟩ (by show n.val / 64 < 128; omega) b h ⟨n.val % 64, by omega⟩ d).trans ?_
  rw [show 64 * (n.val / 64) + n.val % 64 = n.val by omega]

/-- The reference's rows. -/
theorem refY (hA : (argsR m c).Finite) :
    (show FVec Ideal S32768x512 .bf16 from out_main_v69 (STEP^[128] (ent m c))) (ix2 ⟨8192 * b.val + n.val, by omega⟩ ⟨128 * h.val + d.val, by omega⟩) = (argsR m c).Y b h n.val d := by
  have e1 : (⟨8192 * b.val + n.val, by omega⟩ : Fin 32768) = ⟨b.val * 8192 + n.val, by omega⟩ := Fin.ext (by show 8192 * b.val + n.val = b.val * 8192 + n.val; omega)
  have e2 : (⟨128 * h.val + d.val, by omega⟩ : Fin 512) = ⟨h.val * 128 + d.val, by omega⟩ := Fin.ext (by show 128 * h.val + d.val = h.val * 128 + d.val; omega)
  have e3 : tok b n.val = ⟨b.val * 8192 + n.val, by omega⟩ := tok_eq _ _ _ (by show b.val * 8192 + n.val = _; omega)
  rw [e1, e2]
  refine (congrFun (out_eq _) _).trans ((gateV_at b h n d _ _).trans ?_)
  rw [normV_at, iter_main_arg3 m c 128, iter_main_arg5 m c 128]
  simp only [rows_after m c b h n _ hA]
  unfold Args.Y yOf
  rw [e2, e3]
  rfl

/-- The reference's state. -/
theorem refC (hA : (argsR m c).Finite) (j : Fin 64) :
    (show FVec Ideal S4x4x64x128 .f32 from (STEP^[128] (ent m c)) (Proc.devRef .tc main_v44_7)) (ix4 b h j d) = (((argsR m c).C b h j d 8192 : ℝ) : EReal) :=
  (AtV.iter m c hA 128 le_rfl).C b h j d

theorem refN (hA : (argsR m c).Finite) (j : Fin 64) :
    (show FVec Ideal S4x4x64 .f32 from (STEP^[128] (ent m c)) (Proc.devRef .tc main_v44_8)) (ix3 b h j) = (((argsR m c).N b h j 8192 : ℝ) : EReal) :=
  (AtV.iter m c hA 128 le_rfl).N b h j

theorem refM (hA : (argsR m c).Finite) :
    (show FVec Ideal S4x4 .f32 from (STEP^[128] (ent m c)) (Proc.devRef .tc main_v44_9)) (ix2 b h) = (((argsR m c).M b h 8192 : ℝ) : EReal) :=
  (AtV.iter m c hA 128 le_rfl).M b h
end run

end Cert.Ml.Ref

end
-- ==== Proof.MlClaim.lean ====
/- The sequence call's value claim: kernel and reference end with the same rows and the same state. -/
module

public import proofs.«01_k».proof.Defs
public import proofs.«01_k».proof.Proof.MlArr
public import proofs.«01_k».proof.Proof.MlRef
public import Idealize.ShloMosaic.Lib.Claim

@[expose] public section

set_option maxRecDepth 16384

noncomputable section

namespace Cert.Ml

open Idealize.ShloMosaic Idealize.ShloMosaic.TcCoe Idealize.SL.Sem
open Cert.KernelIdeal Cert.KernelIdeal.Gen

/-- What the precondition's own function takes of its shapes. -/
theorem preFacts : Cert.Pre_finite.Facts := ⟨by decide, by decide, by decide⟩

/-- An extended real whose magnitude is below the top is a real number. -/
theorem finite_of_lt {x : EReal} (h : max x (-x) < ⊤) : x = ((x.toReal : ℝ) : EReal) := by
  refine (EReal.coe_toReal (fun e => ?_) (fun e => ?_)).symm
  · rw [e] at h; exact absurd h (by simp)
  · rw [e] at h; exact absurd h (by simp)

variable (m : (ℓ : Loc nD τ sig) → Buf (Elt Ideal) ℓ) (c : Dev nD)

theorem ofBool_one {p : Prop} [Decidable p] (h : BitVec.ofBool (decide p) = 1#1) : p := by
  by_contra hp
  rw [decide_eq_false hp] at h
  exact absurd h (by decide)

theorem top_bits : Ideal.ofBits .f32 0x7F800000#32 = ⊤ := by
  simp [Ideal.ofBits, Ideal.ieee]

theorem below_qk [Cert.Pre_finite.Facts] (x : FVec Ideal Cert.Pre_finite.S32768x256 .bf16) (i)
    (h : cmpf .olt (Host.absf (extf .f32 x Cert.Pre_finite.Facts.bitsLt_bf16_f32)) (broadcastInDim Cert.Pre_finite.S32768x256 ![] Cert.Pre_finite.Facts.bcast_S_S32768x256 (constant (F := Ideal) Cert.Pre_finite.S_ .f32 0x7F800000#32)) i = 1#1) :
    x i = (((x i).toReal : ℝ) : EReal) := by
  have h' : BitVec.ofBool (decide (max (x i) (-(x i)) < Ideal.ofBits .f32 0x7F800000#32)) = 1#1 := h
  rw [top_bits] at h'
  exact finite_of_lt (ofBool_one h')

theorem below_v [Cert.Pre_finite.Facts] (x : FVec Ideal Cert.Pre_finite.S32768x512 .bf16) (i)
    (h : cmpf .olt (Host.absf (extf .f32 x Cert.Pre_finite.Facts.bitsLt_bf16_f32)) (broadcastInDim Cert.Pre_finite.S32768x512 ![] Cert.Pre_finite.Facts.bcast_S_S32768x512 (constant (F := Ideal) Cert.Pre_finite.S_ .f32 0x7F800000#32)) i = 1#1) :
    x i = (((x i).toReal : ℝ) : EReal) := by
  have h' : BitVec.ofBool (decide (max (x i) (-(x i)) < Ideal.ofBits .f32 0x7F800000#32)) = 1#1 := h
  rw [top_bits] at h'
  exact finite_of_lt (ofBool_one h')

theorem finite_of_pre [Cert.Pre_finite.Facts] (h : Cert.Pre_KernelIdeal_finite m) : (argsK m c).Finite :=
  ⟨fun _ _ => below_qk _ _ (congrFun (h c).1 _), fun _ _ => below_qk _ _ (congrFun (h c).2.1 _), fun _ _ => below_v _ _ (congrFun (h c).2.2 _)⟩

/-! The kernel's state after its host lines. -/
abbrev tail (b : Ref sig .tc) : Buf (Elt Ideal) ((c.tc : Thread nD τ).loc b) := Pipeline.afterTail₀ cfgs (dats m) 0 (V0 m) [hostOps1] c b

theorem arr8 : Pipeline.withArrays spec0 c (V0 m c) (fun w => (dats m 0 c).arrAt w (cfgs 0).N) (Proc.devRef .tc main_v2_1) = (dats m 0 c).arrAt 8 (cfgs 0).N :=
  Pipeline.withArrays_arr spec0 (by decide) c (V0 m c) (fun w => (dats m 0 c).arrAt w (cfgs 0).N) 8

theorem arr9 : Pipeline.withArrays spec0 c (V0 m c) (fun w => (dats m 0 c).arrAt w (cfgs 0).N) (Proc.devRef .tc main_v2_2) = (dats m 0 c).arrAt 9 (cfgs 0).N :=
  Pipeline.withArrays_arr spec0 (by decide) c (V0 m c) (fun w => (dats m 0 c).arrAt w (cfgs 0).N) 9

theorem tail3 : tail m c main_v3 = extractStridedSlice S4x4x64x128 ![0, 0, 0, 0] ((dats m 0 c).arrAt 8 (cfgs 0).N) slices_S4x4x64x256_S4x4x64x128_0_0_0_0 := by
  rw [← arr8]
  show StableHlo.after hostOps1 _ (Proc.devRef .tc main_v3) = _
  after_results

theorem tail5 : tail m c main_v5 = shapeCast S4x4x64 (extractStridedSlice S4x4x64x1 ![0, 0, 0, 128] ((dats m 0 c).arrAt 8 (cfgs 0).N) slices_S4x4x64x256_S4x4x64x1_0_0_0_128) shapeCasts_S4x4x64x1_S4x4x64 := by
  rw [← arr8]
  show StableHlo.after hostOps1 _ (Proc.devRef .tc main_v5) = _
  after_results
  rfl

theorem tail7 : tail m c main_v7 = shapeCast S4x4 (extractStridedSlice S4x4x1 ![0, 0, 0] ((dats m 0 c).arrAt 9 (cfgs 0).N) slices_S4x8x128_S4x4x1_0_0_0) shapeCasts_S4x4x1_S4x4 := by
  rw [← arr9]
  show StableHlo.after hostOps1 _ (Proc.devRef .tc main_v7) = _
  after_results
  rfl

variable (b h : Fin 4) (j : Fin 64) (d : Fin 128)

theorem slice3 (x : FVec Ideal S4x4x64x256 .f32) : extractStridedSlice S4x4x64x128 ![0, 0, 0, 0] x slices_S4x4x64x256_S4x4x64x128_0_0_0_0 (ix4 b h j d) = x (ix4 b h j ⟨d.val, by omega⟩) := by
  pointwise []

theorem slice5 (x : FVec Ideal S4x4x64x256 .f32) :
    shapeCast S4x4x64 (extractStridedSlice S4x4x64x1 ![0, 0, 0, 128] x slices_S4x4x64x256_S4x4x64x1_0_0_0_128) shapeCasts_S4x4x64x1_S4x4x64 (ix3 b h j) = x (ix4 b h j 128) := by
  pointwise []

theorem slice7 (x : FVec Ideal S4x8x128 .f32) :
    shapeCast S4x4 (extractStridedSlice S4x4x1 ![0, 0, 0] x slices_S4x8x128_S4x4x1_0_0_0) shapeCasts_S4x4x1_S4x4 (ix2 b h) = x (ix3 b ⟨h.val, by omega⟩ 0) := by
  pointwise []

theorem kerC (hA : (argsK m c).Finite) : (show FVec Ideal S4x4x64x128 .f32 from tail m c main_v3) (ix4 b h j d) = (((argsK m c).C b h j d 8192 : ℝ) : EReal) :=
  (congrFun (tail3 m c) _).trans ((slice3 b h j d _).trans ((arrC m c hA b h j ⟨d.val, by omega⟩).trans (by rw [Args.Ca_lt])))

theorem kerN (hA : (argsK m c).Finite) : (show FVec Ideal S4x4x64 .f32 from tail m c main_v5) (ix3 b h j) = (((argsK m c).N b h j 8192 : ℝ) : EReal) :=
  (congrFun (tail5 m c) _).trans ((slice5 b h j _).trans ((arrC m c hA b h j 128).trans (by rw [Args.Ca_one])))

theorem kerM (hA : (argsK m c).Finite) : (show FVec Ideal S4x4 .f32 from tail m c main_v7) (ix2 b h) = (((argsK m c).M b h 8192 : ℝ) : EReal) :=
  (congrFun (tail7 m c) _).trans ((slice7 b h _).trans (arrM m c hA b h))

/-- The same arguments, read of the two programs' memories. -/
theorem args_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Ref.argsR m' c = argsK m c := by
  unfold Ref.argsR argsK
  congr 1
  · exact funext fun r => funext fun j => congrFun h0 _
  · exact funext fun r => funext fun j => congrFun h1 _
  · exact funext fun r => funext fun j => congrFun h2 _
  · exact funext fun r => funext fun j => congrFun h3 _
  · exact funext fun r => funext fun j => congrFun h4 _
  · exact funext fun r => congrFun h5 _

/-- Over the reals the kernel's rows and state are the reference's. -/
theorem algebraic [Cert.Pre_finite.Facts] : Cert.algebraic_KernelIdeal_ReferenceIdeal_pre_finite := by
  intro m g m' g' hpre hagree
  refine ⟨fun c => (dats m 0 c).arrAt 7 (cfgs 0).N, fun c => tail m c main_v3, fun c => tail m c main_v5, fun c => tail m c main_v7, ?_, ?_⟩
  · refine (θ_run defs _ _).mono (fun _ h c => ⟨(h c).1 7, (h c).2 main_v3 (Pipeline.mem_restRefs_of _ (by decide) (by decide)), (h c).2 main_v5 (Pipeline.mem_restRefs_of _ (by decide) (by decide)),
      (h c).2 main_v7 (Pipeline.mem_restRefs_of _ (by decide) (by decide)), ?_, ?_, ?_, ?_, ?_, ?_⟩) (Cert.KernelIdeal.Gen.run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
    · exact ((h c).1 3).trans (((dats m 0 c).arrAt_in 3 rfl _).trans ((A_eq m c 3).trans (V_main_arg2 m c)))
    · exact ((h c).1 4).trans (((dats m 0 c).arrAt_in 4 rfl _).trans ((A_eq m c 4).trans (V_main_arg3 m c)))
    · exact ((h c).1 5).trans (((dats m 0 c).arrAt_in 5 rfl _).trans ((A_eq m c 5).trans (V_main_arg4 m c)))
    · exact ((h c).2 main_arg5 (Pipeline.mem_restRefs_of _ (by decide) (by decide))).trans (W_main_arg5 m (dats m) c)
  · refine (θ_run _ _ _).mono (fun r h c => ?_) (Cert.ReferenceIdeal.Value.run m' g')
    obtain ⟨a0, a1, a2, a3, a4, a5⟩ := hagree c
    have hA := finite_of_pre m c hpre
    have e := args_eq m c m' a0 a1 a2 a3 a4 a5
    have hR : (Ref.argsR m' c).Finite := e ▸ hA
    refine ⟨(h c).1.trans ?_, (h c).2.1.trans ?_, (h c).2.2.1.trans ?_, (h c).2.2.2.1.trans ?_, (h c).2.2.2.2⟩
    · refine (show (_ : FVec Ideal S32768x512 .bf16) = _ from funext fun i => ?_)
      obtain ⟨r, col, rfl⟩ : ∃ (r : Fin 32768) (col : Fin 512), i = ix2 r col := ⟨i 0, i 1, funext fun a => by fin_cases a <;> rfl⟩
      have er : r = ⟨8192 * (⟨r.val / 8192, by omega⟩ : Fin 4).val + (⟨r.val % 8192, by omega⟩ : Fin 8192).val, by show 8192 * (r.val / 8192) + r.val % 8192 < 32768; omega⟩ :=
        Fin.ext (by show r.val = 8192 * (r.val / 8192) + r.val % 8192; omega)
      have ec : col = ⟨128 * (⟨col.val / 128, by omega⟩ : Fin 4).val + (⟨col.val % 128, by omega⟩ : Fin 128).val, by show 128 * (col.val / 128) + col.val % 128 < 512; omega⟩ :=
        Fin.ext (by show col.val = 128 * (col.val / 128) + col.val % 128; omega)
      rw [er, ec]
      exact (Ref.refY m' c _ _ _ _ hR).trans ((congrArg (fun A => Args.Y A _ _ _ _) e).trans (arrY m c hA _ _ _ _).symm)
    · refine (show (_ : FVec Ideal S4x4x64x128 .f32) = _ from funext fun i => ?_)
      obtain ⟨b, hh, j, d, rfl⟩ : ∃ (b hh : Fin 4) (j : Fin 64) (d : Fin 128), i = ix4 b hh j d := ⟨i 0, i 1, i 2, i 3, funext fun a => by fin_cases a <;> rfl⟩
      exact (Ref.refC m' c b hh d hR j).trans ((congrArg (fun A => ((Args.C A b hh j d 8192 : ℝ) : EReal)) e).trans (kerC m c b hh j d hA).symm)
    · refine (show (_ : FVec Ideal S4x4x64 .f32) = _ from funext fun i => ?_)
      obtain ⟨b, hh, j, rfl⟩ : ∃ (b hh : Fin 4) (j : Fin 64), i = ix3 b hh j := ⟨i 0, i 1, i 2, funext fun a => by fin_cases a <;> rfl⟩
      exact (Ref.refN m' c b hh hR j).trans ((congrArg (fun A => ((Args.N A b hh j 8192 : ℝ) : EReal)) e).trans (kerN m c b hh j hA).symm)
    · refine (show (_ : FVec Ideal S4x4 .f32) = _ from funext fun i => ?_)
      obtain ⟨b, hh, rfl⟩ : ∃ (b hh : Fin 4), i = ix2 b hh := ⟨i 0, i 1, funext fun a => by fin_cases a <;> rfl⟩
      exact (Ref.refM m' c b hh hR).trans ((congrArg (fun A => ((Args.M A b hh 8192 : ℝ) : EReal)) e).trans (kerM m c b hh hA).symm)

end Cert.Ml

end
-- ==== Proof.lean ====
/- The claims of this certificate, assembled from the modules under `Proof/`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.ReferenceIdeal.Run
public import proofs.«01_k».proof.Proof.Gen.Reference2Ideal.Run
public import proofs.«01_k».proof.Proof.FfnClaim
public import proofs.«01_k».proof.Proof.MlClaim
public import Idealize.ShloMosaic.Adequacy
public import Idealize.ShloMosaic.Init

@[expose] public section

noncomputable section

namespace Cert.Proof

open Idealize.ShloMosaic Idealize.SL.Sem

/-- The sequence kernel leaves its arguments and its counters as they were. -/
theorem frameP : Cert.quiescent_Kernel := fun m g _ => Cert.Kernel.Gen.frame m g

/-- So does its reading over the reals. -/
theorem framePI : Cert.quiescent_KernelIdeal := fun m g _ => Cert.KernelIdeal.Gen.frame m g

/-- The sequence reference leaves its arguments alone, and it has no counters. -/
theorem frameRI : Cert.quiescent_ReferenceIdeal := by
  intro m g _
  refine (θ_run _ _ _).mono (fun r h => ⟨fun c => ?_, sem_eq_zero_of_no_sems rfl _⟩) (Cert.ReferenceIdeal.Value.run m g)
  exact (h c).2.2.2.2

/-- The feed-forward kernel leaves its arguments and its counters as they were. -/
theorem frameP2 : Cert.quiescent_Kernel2 := fun m g _ => Cert.Kernel2.Gen.frame m g

/-- So does its reading over the reals. -/
theorem framePI2 : Cert.quiescent_Kernel2Ideal := fun m g _ => Cert.Kernel2Ideal.Gen.frame m g

/-- The feed-forward reference leaves its arguments alone, and it has no counters. -/
theorem frameRI2 : Cert.quiescent_Reference2Ideal := by
  intro m g _
  refine (θ_run _ _ _).mono (fun r h => ⟨fun c => ?_, sem_eq_zero_of_no_sems rfl _⟩) (Cert.Reference2Ideal.Value.run m g)
  exact (h c).2

/-- Reading the mask constant as minus infinity is the named constant's own rule. -/
theorem preservesP : Cert.preserves_Kernel_KernelIdeal :=
  IdealRules.named_const.statement Cert.KernelIdeal.κ "mask" .f32 0xF149F2CA#32 ⊥ rfl

/-- On finite queries, keys and values the kernel's reading leaves its arguments and counters as they were. -/
theorem framePI_finite [Cert.Pre_finite.Facts] : Cert.quiescent_KernelIdeal_pre_finite := fun m g _ => Cert.KernelIdeal.Gen.frame m g

/-- So does the reference. -/
theorem frameRI_finite [Cert.Pre_finite.Facts] : Cert.quiescent_ReferenceIdeal_pre_finite := fun m g _ => frameRI m g trivial

theorem claim : Cert.Claim :=
  have : Cert.Pre_finite.Facts := Cert.Ml.preFacts
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Ml.preFacts,
    frameP, framePI, framePI_finite, frameRI, frameRI_finite, frameP2, framePI2, frameRI2, preservesP, Cert.Ml.algebraic, trivial, Cert.Ffn.algebraic⟩

end Cert.Proof

end
